-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grad_finite [hPre_grad_finite : Cert.Pre_grad_finite.Facts] (m : (ℓ : Loc Cert.KernelIdeal.nD Cert.KernelIdeal.τ Cert.KernelIdeal.sig) → Buf (Elt Ideal) ℓ) : Prop :=
  ∀ c : Dev Cert.KernelIdeal.nD,
    (Cert.Pre_grad_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grad_finite [hPre_grad_finite : Cert.Pre_grad_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grad_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_grad_finite [hKernelIdeal : Cert.KernelIdeal.Facts] [hPre_grad_finite : Cert.Pre_grad_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grad_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_grad_finite [hReferenceIdeal : Cert.ReferenceIdeal.Facts] [hPre_grad_finite : Cert.Pre_grad_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grad_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_grad_finite [hKernelIdeal : Cert.KernelIdeal.Facts] [hReferenceIdeal : Cert.ReferenceIdeal.Facts] [hPre_grad_finite : Cert.Pre_grad_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grad_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_grad_finite : Cert.Pre_grad_finite.Facts),
    quiescent_Kernel (hKernel := hKernel)
    ∧ quiescent_KernelIdeal (hKernelIdeal := hKernelIdeal)
    ∧ quiescent_KernelIdeal_pre_grad_finite (hKernelIdeal := hKernelIdeal) (hPre_grad_finite := hPre_grad_finite)
    ∧ quiescent_ReferenceIdeal (hReferenceIdeal := hReferenceIdeal)
    ∧ quiescent_ReferenceIdeal_pre_grad_finite (hReferenceIdeal := hReferenceIdeal) (hPre_grad_finite := hPre_grad_finite)
    ∧ preserves_Kernel_KernelIdeal
    ∧ algebraic_KernelIdeal_ReferenceIdeal_pre_grad_finite (hKernelIdeal := hKernelIdeal) (hReferenceIdeal := hReferenceIdeal) (hPre_grad_finite := hPre_grad_finite)
-- ==== Pre_grad_finite.lean ====
abbrev S1536x16384 : Shape := ⟨2, ![1536, 16384]⟩
abbrev S_ : Shape := ⟨0, ![]⟩

class Facts : Prop where
  bitsLt_bf16_f32 : FTy.bits .bf16 < FTy.bits .f32
  bcast_S_S1536x16384 : S_.BroadcastsInDim S1536x16384 (![] : Fin 0 → Fin S1536x16384.rank)

variable [Facts]

def fn {F : FTy → Type} [FloatOps F] (main_arg0 : FVec F S1536x16384 .bf16) (main_arg1 : FVec F S1536x16384 .bf16) : IVec S1536x16384 1 :=
  let main_v0 : FVec F S1536x16384 .f32 := (extf .f32 · bitsLt_bf16_f32) main_arg0
  let main_v1 : FVec F S1536x16384 .f32 := Host.absf main_v0
  let main_cst : FVec F S_ .f32 := constant S_ .f32 0x7F7F0000#32
  let main_v2 : FVec F S1536x16384 .f32 := broadcastInDim S1536x16384 ![] bcast_S_S1536x16384 main_cst
  let main_v3 : IVec S1536x16384 1 := cmpf .ole main_v1 main_v2
  main_v3
-- ==== Kernel.lean ====
abbrev S1536x16384 : Shape := ⟨2, ![1536, 16384]⟩
abbrev S1x16384 : Shape := ⟨2, ![1, 16384]⟩
abbrev S1536x512 : Shape := ⟨2, ![1536, 512]⟩
abbrev S16384x1536 : Shape := ⟨2, ![16384, 1536]⟩
abbrev S16384x48 : Shape := ⟨2, ![16384, 48]⟩
abbrev S1536x256 : Shape := ⟨2, ![1536, 256]⟩
abbrev S1x256 : Shape := ⟨2, ![1, 256]⟩
abbrev S1536x128 : Shape := ⟨2, ![1536, 128]⟩
abbrev S256x1536 : Shape := ⟨2, ![256, 1536]⟩
abbrev S256x48 : Shape := ⟨2, ![256, 48]⟩
abbrev S128x1536 : Shape := ⟨2, ![128, 1536]⟩
abbrev S48x256 : Shape := ⟨2, ![48, 256]⟩
abbrev S8x256 : Shape := ⟨2, ![8, 256]⟩
abbrev S4x128 : Shape := ⟨2, ![4, 128]⟩
abbrev S128x256 : Shape := ⟨2, ![128, 256]⟩
abbrev S16x8x256 : Shape := ⟨3, ![16, 8, 256]⟩
abbrev S256x128 : Shape := ⟨2, ![256, 128]⟩
abbrev S4x32x256 : Shape := ⟨3, ![4, 32, 256]⟩
abbrev S4x256 : Shape := ⟨2, ![4, 256]⟩
abbrev S8x32x128 : Shape := ⟨3, ![8, 32, 128]⟩
abbrev S8x128 : Shape := ⟨2, ![8, 128]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S1536x16384, .bf16⟩
  | .hbm, ⟨1, _⟩ => ⟨S1536x16384, .bf16⟩
  | .hbm, ⟨2, _⟩ => ⟨S1x16384, .f32⟩
  | .hbm, ⟨3, _⟩ => ⟨S1536x16384, .fp8e4m3⟩
  | .hbm, ⟨4, _⟩ => ⟨S1536x512, .i8⟩
  | .hbm, ⟨5, _⟩ => ⟨S16384x1536, .fp8e4m3⟩
  | .hbm, ⟨6, _⟩ => ⟨S16384x48, .i8⟩
  | .local _ .vmem, ⟨0, _⟩ => ⟨S1536x256, .bf16⟩
  | .local _ .vmem, ⟨1, _⟩ => ⟨S1536x256, .bf16⟩
  | .local _ .vmem, ⟨2, _⟩ => ⟨S1536x256, .bf16⟩
  | .local _ .vmem, ⟨3, _⟩ => ⟨S1536x256, .bf16⟩
  | .local _ .vmem, ⟨4, _⟩ => ⟨S1x256, .f32⟩
  | .local _ .vmem, ⟨5, _⟩ => ⟨S1x256, .f32⟩
  | .local _ .vmem, ⟨6, _⟩ => ⟨S1536x256, .fp8e4m3⟩
  | .local _ .vmem, ⟨7, _⟩ => ⟨S1536x256, .fp8e4m3⟩
  | .local _ .vmem, ⟨8, _⟩ => ⟨S1536x128, .i8⟩
  | .local _ .vmem, ⟨9, _⟩ => ⟨S1536x128, .i8⟩
  | .local _ .vmem, ⟨10, _⟩ => ⟨S256x1536, .fp8e4m3⟩
  | .local _ .vmem, ⟨11, _⟩ => ⟨S256x1536, .fp8e4m3⟩
  | .local _ .vmem, ⟨12, _⟩ => ⟨S256x48, .i8⟩
  | .local _ .vmem, ⟨13, _⟩ => ⟨S256x48, .i8⟩
  | .local _ .vmem, ⟨14, _⟩ => ⟨S128x1536, .i32⟩
  | .local _ .vmem, ⟨15, _⟩ => ⟨S48x256, .i32⟩
  | _, _ => ⟨S1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c8_i32_81 : BitVec 32 := 8#32
  let v277 : BitVec 32 := Scalar.muli arg1 c8_i32_81
  v277
def k0_off1 (i : grid0.Coords) : Fin 2 → Nat :=
  let arg1 : BitVec 32 := BitVec.ofNat 32 (i 1).val
  let c8_i32_81 : BitVec 32 := 8#32
  let v277 : BitVec 32 := Scalar.muli arg1 c8_i32_81
  let v278 : BitVec 32 := v277
  let v279 : Index := Scalar.indexCast v278
  let c0_82 : Index := 0#32
  ![v279.toNat, 0]
def k0_mult2 (i : grid0.Coords) : BitVec 32 :=
  let arg1 : BitVec 32 := BitVec.ofNat 32 (i 1).val
  let c8_i32_171 : BitVec 32 := 8#32
  let v517 : BitVec 32 := Scalar.muli arg1 c8_i32_171
  v517
def k0_off2 (i : grid0.Coords) : Fin 2 → Nat :=
  let arg1 : BitVec 32 := BitVec.ofNat 32 (i 1).val
  let c8_i32_171 : BitVec 32 := 8#32
  let v517 : BitVec 32 := Scalar.muli arg1 c8_i32_171
  let v518 : BitVec 32 := v517
  let v519 : Index := Scalar.indexCast v518
  let c128_172 : Index := 128#32
  ![v519.toNat, 128]
def k0_mult3 (i : grid0.Coords) : BitVec 32 :=
  let arg1 : BitVec 32 := BitVec.ofNat 32 (i 1).val
  let c8_i32_261 : BitVec 32 := 8#32
  let v757 : BitVec 32 := Scalar.muli arg1 c8_i32_261
  v757
def k0_off3 (i : grid0.Coords) : Fin 2 → Nat :=
  let arg1 : BitVec 32 := BitVec.ofNat 32 (i 1).val
  let c8_i32_261 : BitVec 32 := 8#32
  let v757 : BitVec 32 := Scalar.muli arg1 c8_i32_261
  let v758 : BitVec 32 := v757
  let v759 : Index := Scalar.indexCast v758
  let c256_262 : Index := 256#32
  ![v759.toNat, 256]
def k0_mult4 (i : grid0.Coords) : BitVec 32 :=
  let arg1 : BitVec 32 := BitVec.ofNat 32 (i 1).val
  let c8_i32_351 : BitVec 32 := 8#32
  let v997 : BitVec 32 := Scalar.muli arg1 c8_i32_351
  v997
def k0_off4 (i : grid0.Coords) : Fin 2 → Nat :=
  let arg1 : BitVec 32 := BitVec.ofNat 32 (i 1).val
  let c8_i32_351 : BitVec 32 := 8#32
  let v997 : BitVec 32 := Scalar.muli arg1 c8_i32_351
  let v998 : BitVec 32 := v997
  let v999 : Index := Scalar.indexCast v998
  let c384_352 : Index := 384#32
  ![v999.toNat, 384]
def k0_mult5 (i : grid0.Coords) : BitVec 32 :=
  let arg1 : BitVec 32 := BitVec.ofNat 32 (i 1).val
  let c8_i32_441 : BitVec 32 := 8#32
  let v1237 : BitVec 32 := Scalar.muli arg1 c8_i32_441
  v1237
def k0_off5 (i : grid0.Coords) : Fin 2 → Nat :=
  let arg1 : BitVec 32 := BitVec.ofNat 32 (i 1).val
  let c8_i32_441 : BitVec 32 := 8#32
  let v1237 : BitVec 32 := Scalar.muli arg1 c8_i32_441
  let v1238 : BitVec 32 := v1237
  let v1239 : Index := Scalar.indexCast v1238
  let c512_442 : Index := 512#32
  ![v1239.toNat, 512]
def k0_mult6 (i : grid0.Coords) : BitVec 32 :=
  let arg1 : BitVec 32 := BitVec.ofNat 32 (i 1).val
  let c8_i32_531 : BitVec 32 := 8#32
  let v1477 : BitVec 32 := Scalar.muli arg1 c8_i32_531
  v1477
def k0_off6 (i : grid0.Coords) : Fin 2 → Nat :=
  let arg1 : BitVec 32 := BitVec.ofNat 32 (i 1).val
  let c8_i32_531 : BitVec 32 := 8#32
  let v1477 : BitVec 32 := Scalar.muli arg1 c8_i32_531
  let v1478 : BitVec 32 := v1477
  let v1479 : Index := Scalar.indexCast v1478
  let c640_532 : Index := 640#32
  ![v1479.toNat, 640]
def k0_mult7 (i : grid0.Coords) : BitVec 32 :=
  let arg1 : BitVec 32 := BitVec.ofNat 32 (i 1).val
  let c8_i32_621 : BitVec 32 := 8#32
  let v1717 : BitVec 32 := Scalar.muli arg1 c8_i32_621
  v1717
def k0_off7 (i : grid0.Coords) : Fin 2 → Nat :=
  let arg1 : BitVec 32 := BitVec.ofNat 32 (i 1).val
  let c8_i32_621 : BitVec 32 := 8#32
  let v1717 : BitVec 32 := Scalar.muli arg1 c8_i32_621
  let v1718 : BitVec 32 := v1717
  let v1719 : Index := Scalar.indexCast v1718
  let c768_622 : Index := 768#32
  ![v1719.toNat, 768]
def k0_mult8 (i : grid0.Coords) : BitVec 32 :=
  let arg1 : BitVec 32 := BitVec.ofNat 32 (i 1).val
  let c8_i32_711 : BitVec 32 := 8#32
  let v1957 : BitVec 32 := Scalar.muli arg1 c8_i32_711
  v1957
def k0_off8 (i : grid0.Coords) : Fin 2 → Nat :=
  let arg1 : BitVec 32 := BitVec.ofNat 32 (i 1).val
  let c8_i32_711 : BitVec 32 := 8#32
  let v1957 : BitVec 32 := Scalar.muli arg1 c8_i32_711
  let v1958 : BitVec 32 := v1957
  let v1959 : Index := Scalar.indexCast v1958
  let c896_712 : Index := 896#32
  ![v1959.toNat, 896]
def k0_mult9 (i : grid0.Coords) : BitVec 32 :=
  let arg1 : BitVec 32 := BitVec.ofNat 32 (i 1).val
  let c8_i32_801 : BitVec 32 := 8#32
  let v2197 : BitVec 32 := Scalar.muli arg1 c8_i32_801
  v2197
def k0_off9 (i : grid0.Coords) : Fin 2 → Nat :=
  let arg1 : BitVec 32 := BitVec.ofNat 32 (i 1).val
  let c8_i32_801 : BitVec 32 := 8#32
  let v2197 : BitVec 32 := Scalar.muli arg1 c8_i32_801
  let v2198 : BitVec 32 := v2197
  let v2199 : Index := Scalar.indexCast v2198
  let c1024_802 : Index := 1024#32
  ![v2199.toNat, 1024]
def k0_mult10 (i : grid0.Coords) : BitVec 32 :=
  let arg1 : BitVec 32 := BitVec.ofNat 32 (i 1).val
  let c8_i32_891 : BitVec 32 := 8#32
  let v2437 : BitVec 32 := Scalar.muli arg1 c8_i32_891
  v2437
def k0_off10 (i : grid0.Coords) : Fin 2 → Nat :=
  let arg1 : BitVec 32 := BitVec.ofNat 32 (i 1).val
  let c8_i32_891 : BitVec 32 := 8#32
  let v2437 : BitVec 32 := Scalar.muli arg1 c8_i32_891
  let v2438 : BitVec 32 := v2437
  let v2439 : Index := Scalar.indexCast v2438
  let c1152_892 : Index := 1152#32
  ![v2439.toNat, 1152]
def k0_mult11 (i : grid0.Coords) : BitVec 32 :=
  let arg1 : BitVec 32 := BitVec.ofNat 32 (i 1).val
  let c8_i32_981 : BitVec 32 := 8#32
  let v2677 : BitVec 32 := Scalar.muli arg1 c8_i32_981
  v2677
def k0_off11 (i : grid0.Coords) : Fin 2 → Nat :=
  let arg1 : BitVec 32 := BitVec.ofNat 32 (i 1).val
  let c8_i32_981 : BitVec 32 := 8#32
  let v2677 : BitVec 32 := Scalar.muli arg1 c8_i32_981
  let v2678 : BitVec 32 := v2677
  let v2679 : Index := Scalar.indexCast v2678
  let c1280_982 : Index := 1280#32
  ![v2679.toNat, 1280]
def k0_mult12 (i : grid0.Coords) : BitVec 32 :=
  let arg1 : BitVec 32 := BitVec.ofNat 32 (i 1).val
  let c8_i32_1071 : BitVec 32 := 8#32
  let v2917 : BitVec 32 := Scalar.muli arg1 c8_i32_1071
  v2917
def k0_off12 (i : grid0.Coords) : Fin 2 → Nat :=
  let arg1 : BitVec 32 := BitVec.ofNat 32 (i 1).val
  let c8_i32_1071 : BitVec 32 := 8#32
  let v2917 : BitVec 32 := Scalar.muli arg1 c8_i32_1071
  let v2918 : BitVec 32 := v2917
  let v2919 : Index := Scalar.indexCast v2918
  let c1408_1072 : Index := 1408#32
  ![v2919.toNat, 1408]
def k0_cond1 (i : grid0.Coords) : BitVec 1 :=
  let arg1 : BitVec 32 := BitVec.ofNat 32 (i 1).val
  let c15_i32 : BitVec 32 := 15#32
  let v2948 : BitVec 1 := Scalar.cmpi .eq arg1 c15_i32
  let v2949 : BitVec 32 := Scalar.extui v2948
  let c0_i32_1090 : BitVec 32 := 0#32
  let v2950 : BitVec 1 := Scalar.cmpi .ne v2949 c0_i32_1090
  v2950

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x48 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1536x16384 : Shape := ⟨2, ![1536, 16384]⟩
abbrev S1x16384 : Shape := ⟨2, ![1, 16384]⟩
abbrev S1536x512 : Shape := ⟨2, ![1536, 512]⟩
abbrev S16384x1536 : Shape := ⟨2, ![16384, 1536]⟩
abbrev S16384x48 : Shape := ⟨2, ![16384, 48]⟩
abbrev S16384 : Shape := ⟨1, ![16384]⟩
abbrev S1536x512x32 : Shape := ⟨3, ![1536, 512, 32]⟩
abbrev S1536x512x1 : Shape := ⟨3, ![1536, 512, 1]⟩
abbrev S16384x48x32 : Shape := ⟨3, ![16384, 48, 32]⟩
abbrev S16384x48x1 : Shape := ⟨3, ![16384, 48, 1]⟩

abbrev nBuf : Space → Nat
  | .hbm => 7
  | .vmem => 7
  | .smem => 0
  | _ => 0

abbrev bufTy : (tb : Table) → Fin (tcTables nBuf tb) → BufTy
  | .hbm, ⟨0, _⟩ => ⟨S1536x16384, .bf16⟩
  | .hbm, ⟨1, _⟩ => ⟨S1536x16384, .bf16⟩
  | .hbm, ⟨2, _⟩ => ⟨S1x16384, .f32⟩
  | .hbm, ⟨3, _⟩ => ⟨S1536x16384, .fp8e4m3⟩
  | .hbm, ⟨4, _⟩ => ⟨S1536x512, .i8⟩
  | .hbm, ⟨5, _⟩ => ⟨S16384x1536, .fp8e4m3⟩
  | .hbm, ⟨6, _⟩ => ⟨S16384x48, .i8⟩
  | .local _ .vmem, ⟨0, _⟩ => ⟨S1536x16384, .bf16⟩
  | .local _ .vmem, ⟨1, _⟩ => ⟨S1536x16384, .bf16⟩
  | .local _ .vmem, ⟨2, _⟩ => ⟨S1x16384, .f32⟩
  | .local _ .vmem, ⟨3, _⟩ => ⟨S1536x16384, .fp8e4m3⟩
  | .local _ .vmem, ⟨4, _⟩ => ⟨S1536x512, .i8⟩
  | .local _ .vmem, ⟨5, _⟩ => ⟨S16384x1536, .fp8e4m3⟩
  | .local _ .vmem, ⟨6, _⟩ => ⟨S16384x48, .i8⟩
  | _, _ => ⟨S1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x48 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RunKit.lean ====
/- What the two runs of the kernel body share: when the last step of a group is reached, which windows are idle,
   the staging memrefs and the two scratch buffers. -/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.WordCmp
public import Idealize.ShloMosaic.Lib.Tactic
public import Idealize.ShloMosaic.Lib.Ring

@[expose] public section

-- rectangles of long axes: the elaborator's structural look recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 15 (mod 16) — by arithmetic of the point. -/
theorem hcond0_0 : ∀ t : Fin cfg0.N, cond0_0 (grid0.coords t) ↔ t.val % 16 = 15 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 4 idle: the case stores nothing into it. -/
theorem idleAt0_4_A : ∀ t : Fin cfg0.N, ¬cond0_0 (grid0.coords t) → cfg0.idle 4 (grid0.coords t) = true := by decide +kernel
/-- At the points of case A the pipeline does not write output 4's block back. -/
theorem noFlush0_4_A : ∀ t : Fin cfg0.N, ¬cond0_0 (grid0.coords t) → (cfg0.win 4).flush t = false := by decide +kernel
/-- At the points of case B the printed configuration (`Cfg.idle`) calls output 4 live: the case stores into it. -/
theorem liveAt0_4_B : ∀ t : Fin cfg0.N, cond0_0 (grid0.coords t) → cfg0.idle 4 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x256 .f32 := (Memref.whole cc0_stg2_0 : Memref sig .tc .vmem S1x256 .f32).view
/-- One staging buffer of output window 3, through which its contents are stated (`View.read_writes_of_cover`: the
    choice does not matter). -/
abbrev VO0_3 : View sig .tc .vmem S1536x256 .fp8e4m3 := (Memref.whole cc0_stg3_0 : Memref sig .tc .vmem S1536x256 .fp8e4m3).view
/-- One staging buffer of output window 4, through which its contents are stated (`View.read_writes_of_cover`: the
    choice does not matter). -/
abbrev VO0_4 : View sig .tc .vmem S1536x128 .i8 := (Memref.whole cc0_stg4_0 : Memref sig .tc .vmem S1536x128 .i8).view
/-- One staging buffer of output window 5, through which its contents are stated (`View.read_writes_of_cover`: the
    choice does not matter). -/
abbrev VO0_5 : View sig .tc .vmem S256x1536 .fp8e4m3 := (Memref.whole cc0_stg5_0 : Memref sig .tc .vmem S256x1536 .fp8e4m3).view
/-- One staging buffer of output window 6, through which its contents are stated (`View.read_writes_of_cover`: the
    choice does not matter). -/
abbrev VO0_6 : View sig .tc .vmem S256x48 .i8 := (Memref.whole cc0_stg6_0 : Memref sig .tc .vmem S256x48 .i8).view
/-- Each window's current staging memref at point `t`, spelled as the pipeline passes it (`bodyAt0`), and its wholeness. -/
abbrev ms0_0 (t : Fin cfg0.N) : Memref sig .tc .vmem S1536x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x48 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x1536 .i32 := Memref.whole cc0_scratch0
abbrev scM0_1 : Memref sig .tc .vmem S48x256 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Tile.lean ====
/- What one step of the kernel computes, tile by tile: the 1536 tokens of a step's window are
   taken in 12 tiles of 128, and every tile is treated alike. The functions here are that treatment
   of one tile; the lists are what a whole step stores, last store first. -/
module

public import proofs.«01_k».proof.Proof.RunKit

@[expose] public section

set_option maxRecDepth 16384

noncomputable section

namespace Cert.KernelIdeal.Run

open Cert.KernelIdeal Cert.KernelIdeal.Gen
open Idealize.ShloMosaic Idealize.ShloMosaic.TcCoe
open Idealize.SL

variable {F : FTy → Type} [FloatOps F]

/-- The constant `w` (the word of a 32-bit float) at every index. -/
def cst (s : Shape) (w : BitVec 32) : FVec F s .f32 := broadcast s (Scalar.ofBits .f32 w)

/-- The derivative of the tanh form of GELU at `x`, times the gradient. -/
def dgelu (s : Shape) (g x : FVec F s .f32) : FVec F s .f32 :=
  let x2 := mulf x x
  let t := tanh (mulf (cst s 0x3F4C422A#32) (addf x (mulf (mulf (cst s 0x3D372713#32) x2) x)))
  mulf g (addf (mulf (cst s 0x3F000000#32) (addf (cst s 0x3F800000#32) t))
    (mulf (mulf (mulf (mulf (cst s 0x3F000000#32) x) (subf (cst s 0x3F800000#32) (mulf t t)))
        (cst s 0x3F4C422A#32))
      (addf (cst s 0x3F800000#32) (mulf (cst s 0x3E095D4F#32) x2))))

/-- The derivative on one tile. -/
def tileF (g x : Vec F S128x256 .bf16) : FVec F S128x256 .f32 :=
  dgelu S128x256 (extf .f32 (show FVec F S128x256 .bf16 from g) bitsLt_bf16_f32)
    (extf .f32 (show FVec F S128x256 .bf16 from x) bitsLt_bf16_f32)

/-- The tile turned over: channels down, tokens across. -/
def tileT (f : FVec F S128x256 .f32) : FVec F S256x128 .f32 :=
  transpose S256x128 [1, 0] f transposes_S128x256_p1_0_S256x128

/-- The eight partial sums per channel of one tile, added to `acc`. -/
def tileAcc (acc : FVec F S8x256 .f32) (f : FVec F S128x256 .f32) : FVec F S8x256 .f32 :=
  addf acc (multiReduction .add [0] S8x256 (shapeCast S16x8x256 f shapeCasts_S128x256_S16x8x256)
    0x00000000#32 reduces_S16x8x256_S8x256 (.inl rfl) rfl)

/-- The largest magnitude of every 32 consecutive tokens of a channel, over 448. -/
def tilePC (f : FVec F S128x256 .f32) : FVec F S4x256 .f32 :=
  mulf (multiReduction .maximumf [1] S4x256
    (shapeCast S4x32x256 (absf f) shapeCasts_S128x256_S4x32x256) 0xFF800000#32
    reduces_S4x32x256_S4x256 (.inl rfl) rfl) (cst S4x256 0x3B124925#32)

/-- The largest magnitude of every 32 consecutive channels of a token, over 448. -/
def tilePR (f : FVec F S128x256 .f32) : FVec F S8x128 .f32 :=
  mulf (multiReduction .maximumf [1] S8x128
    (shapeCast S8x32x128 (absf (tileT f)) shapeCasts_S256x128_S8x32x128) 0xFF800000#32
    reduces_S8x32x128_S8x128 (.inl rfl) rfl) (cst S8x128 0x3B124925#32)

/-- One step of the search for the exponent field: `b + k` where the power of two whose field is
    `b + k` is at most `p`, else `b`. -/
def stepE {s : Shape} (p : FVec F s .f32) (k : BitVec 32) (b : IVec s 32) : IVec s 32 :=
  select (cmpf .oge p (bitcastToFloat .f32 (shli (addi b (broadcast s k)) (broadcast s 23#32))))
    (addi b (broadcast s k)) b

/-- The exponent field of `p`, found bit by bit. -/
def expo {s : Shape} (p : FVec F s .f32) : IVec s 32 :=
  stepE p 1#32 (stepE p 2#32 (stepE p 4#32 (stepE p 8#32 (stepE p 16#32 (stepE p 32#32
    (stepE p 64#32 (stepE p 128#32 (broadcast s 0#32))))))))

/-- The scale word of a block whose largest magnitude over 448 is `p`. -/
def scaleW {s : Shape} (p : FVec F s .f32) : IVec s 32 :=
  select (cmpi .eq (expo p) (broadcast s 0#32)) (broadcast s 127#32)
    (addi (expo p) (broadcast s 1#32))

/-- The inverse scale: the float whose exponent field is `254` less the scale word. -/
def invW {s : Shape} (p : FVec F s .f32) : FVec F s .f32 :=
  bitcastToFloat .f32 (shli (subi (broadcast s 254#32) (scaleW p)) (broadcast s 23#32))

/-- One-hot: which of the 8 blocks of 32 channels a channel of the window lies in. -/
def hotR : FVec F S8x256 .bf16 := k0_pay1

/-- One-hot: which of the 4 blocks of 32 tokens a token of the tile lies in. -/
def hotC : FVec F S4x128 .bf16 :=
  k0_pay5 (iota .tc S4x128 32 [1] iota_S4x128_d1_w32) 32#32 k0_pay2 k0_pay3 k0_pay4

/-- Clipped to ±448 and cast. -/
def clip8 {s : Shape} (v : FVec F s .f32) : FVec F s .fp8e4m3 :=
  truncf .fp8e4m3 (minimumf (cst s 0x43E00000#32) (maximumf (cst s 0xC3E00000#32) v))
    bitsLt_fp8e4m3_f32

/-- The codes of a tile, blocks along the channels. -/
def tileRC (f : FVec F S128x256 .f32) : FVec F S128x256 .fp8e4m3 :=
  clip8 (mulf f (matmul dot_S8x128_S8x256_S128x256_0_0_1_1_n_n none
    (truncf .bf16 (invW (tilePR f)) bitsLt_bf16_f32) hotR (constant S128x256 .f32 0x00000000#32)))

/-- The codes of a tile turned over, blocks along the tokens. -/
def tileCC (f : FVec F S128x256 .f32) : FVec F S256x128 .fp8e4m3 :=
  clip8 (mulf (tileT f) (matmul dot_S4x256_S4x128_S256x128_0_0_1_1_n_n none
    (truncf .bf16 (invW (tilePC f)) bitsLt_bf16_f32) hotC (constant S256x128 .f32 0x00000000#32)))

/-- The eight partial sums per channel of the first `n` tiles. -/
def accOf (f : ℕ → FVec F S128x256 .f32) : ℕ → FVec F S8x256 .f32
  | 0 => broadcast S8x256 (Scalar.ofBits .f32 0x00000000#32)
  | n + 1 => tileAcc (accOf f n) (f n)

/-- The bias gradient of the window: the partial sums of the 12 tiles, then the eight of them. -/
def sumOut (f : ℕ → FVec F S128x256 .f32) : FVec F S1x256 .f32 :=
  shapeCast S1x256 (multiReduction .add [0] S256
    (accOf f 12) 0x00000000#32 reduces_S8x256_S256 (.inl rfl) rfl) shapeCasts_S256_S1x256

/-- The code stores, blocks along the channels. -/
def rcPieces (f : ℕ → FVec F S128x256 .f32) : List (View.Piece (Elt F) S1536x256 .fp8e4m3) :=
  [⟨Rect.unit (s := S1536x256) ![1408, 0] S128x256.size inb_S1536x256_S128x256_1408_0, tileRC (f 11)⟩,
   ⟨Rect.unit (s := S1536x256) ![1280, 0] S128x256.size inb_S1536x256_S128x256_1280_0, tileRC (f 10)⟩,
   ⟨Rect.unit (s := S1536x256) ![1152, 0] S128x256.size inb_S1536x256_S128x256_1152_0, tileRC (f 9)⟩,
   ⟨Rect.unit (s := S1536x256) ![1024, 0] S128x256.size inb_S1536x256_S128x256_1024_0, tileRC (f 8)⟩,
   ⟨Rect.unit (s := S1536x256) ![896, 0] S128x256.size inb_S1536x256_S128x256_896_0, tileRC (f 7)⟩,
   ⟨Rect.unit (s := S1536x256) ![768, 0] S128x256.size inb_S1536x256_S128x256_768_0, tileRC (f 6)⟩,
   ⟨Rect.unit (s := S1536x256) ![640, 0] S128x256.size inb_S1536x256_S128x256_640_0, tileRC (f 5)⟩,
   ⟨Rect.unit (s := S1536x256) ![512, 0] S128x256.size inb_S1536x256_S128x256_512_0, tileRC (f 4)⟩,
   ⟨Rect.unit (s := S1536x256) ![384, 0] S128x256.size inb_S1536x256_S128x256_384_0, tileRC (f 3)⟩,
   ⟨Rect.unit (s := S1536x256) ![256, 0] S128x256.size inb_S1536x256_S128x256_256_0, tileRC (f 2)⟩,
   ⟨Rect.unit (s := S1536x256) ![128, 0] S128x256.size inb_S1536x256_S128x256_128_0, tileRC (f 1)⟩,
   ⟨Rect.unit (s := S1536x256) ![0, 0] S128x256.size inb_S1536x256_S128x256_0_0, tileRC (f 0)⟩]

/-- The code stores, blocks along the tokens. -/
def ccPieces (f : ℕ → FVec F S128x256 .f32) : List (View.Piece (Elt F) S256x1536 .fp8e4m3) :=
  [⟨Rect.unit (s := S256x1536) ![0, 1408] S256x128.size inb_S256x1536_S256x128_0_1408, tileCC (f 11)⟩,
   ⟨Rect.unit (s := S256x1536) ![0, 1280] S256x128.size inb_S256x1536_S256x128_0_1280, tileCC (f 10)⟩,
   ⟨Rect.unit (s := S256x1536) ![0, 1152] S256x128.size inb_S256x1536_S256x128_0_1152, tileCC (f 9)⟩,
   ⟨Rect.unit (s := S256x1536) ![0, 1024] S256x128.size inb_S256x1536_S256x128_0_1024, tileCC (f 8)⟩,
   ⟨Rect.unit (s := S256x1536) ![0, 896] S256x128.size inb_S256x1536_S256x128_0_896, tileCC (f 7)⟩,
   ⟨Rect.unit (s := S256x1536) ![0, 768] S256x128.size inb_S256x1536_S256x128_0_768, tileCC (f 6)⟩,
   ⟨Rect.unit (s := S256x1536) ![0, 640] S256x128.size inb_S256x1536_S256x128_0_640, tileCC (f 5)⟩,
   ⟨Rect.unit (s := S256x1536) ![0, 512] S256x128.size inb_S256x1536_S256x128_0_512, tileCC (f 4)⟩,
   ⟨Rect.unit (s := S256x1536) ![0, 384] S256x128.size inb_S256x1536_S256x128_0_384, tileCC (f 3)⟩,
   ⟨Rect.unit (s := S256x1536) ![0, 256] S256x128.size inb_S256x1536_S256x128_0_256, tileCC (f 2)⟩,
   ⟨Rect.unit (s := S256x1536) ![0, 128] S256x128.size inb_S256x1536_S256x128_0_128, tileCC (f 1)⟩,
   ⟨Rect.unit (s := S256x1536) ![0, 0] S256x128.size inb_S256x1536_S256x128_0_0, tileCC (f 0)⟩]

/-- The stores of scale words into the column scratch. -/
def csPieces (f : ℕ → FVec F S128x256 .f32) : List (View.Piece (Elt F) S48x256 .i32) :=
  [⟨Rect.unit (s := S48x256) ![44, 0] S4x256.size inb_S48x256_S4x256_44_0,
      shapeCast S4x256 (scaleW (tilePC (f 11))) shapeCasts_S4x256_S4x256⟩,
   ⟨Rect.unit (s := S48x256) ![40, 0] S4x256.size inb_S48x256_S4x256_40_0,
      shapeCast S4x256 (scaleW (tilePC (f 10))) shapeCasts_S4x256_S4x256⟩,
   ⟨Rect.unit (s := S48x256) ![36, 0] S4x256.size inb_S48x256_S4x256_36_0,
      shapeCast S4x256 (scaleW (tilePC (f 9))) shapeCasts_S4x256_S4x256⟩,
   ⟨Rect.unit (s := S48x256) ![32, 0] S4x256.size inb_S48x256_S4x256_32_0,
      shapeCast S4x256 (scaleW (tilePC (f 8))) shapeCasts_S4x256_S4x256⟩,
   ⟨Rect.unit (s := S48x256) ![28, 0] S4x256.size inb_S48x256_S4x256_28_0,
      shapeCast S4x256 (scaleW (tilePC (f 7))) shapeCasts_S4x256_S4x256⟩,
   ⟨Rect.unit (s := S48x256) ![24, 0] S4x256.size inb_S48x256_S4x256_24_0,
      shapeCast S4x256 (scaleW (tilePC (f 6))) shapeCasts_S4x256_S4x256⟩,
   ⟨Rect.unit (s := S48x256) ![20, 0] S4x256.size inb_S48x256_S4x256_20_0,
      shapeCast S4x256 (scaleW (tilePC (f 5))) shapeCasts_S4x256_S4x256⟩,
   ⟨Rect.unit (s := S48x256) ![16, 0] S4x256.size inb_S48x256_S4x256_16_0,
      shapeCast S4x256 (scaleW (tilePC (f 4))) shapeCasts_S4x256_S4x256⟩,
   ⟨Rect.unit (s := S48x256) ![12, 0] S4x256.size inb_S48x256_S4x256_12_0,
      shapeCast S4x256 (scaleW (tilePC (f 3))) shapeCasts_S4x256_S4x256⟩,
   ⟨Rect.unit (s := S48x256) ![8, 0] S4x256.size inb_S48x256_S4x256_8_0,
      shapeCast S4x256 (scaleW (tilePC (f 2))) shapeCasts_S4x256_S4x256⟩,
   ⟨Rect.unit (s := S48x256) ![4, 0] S4x256.size inb_S48x256_S4x256_4_0,
      shapeCast S4x256 (scaleW (tilePC (f 1))) shapeCasts_S4x256_S4x256⟩,
   ⟨Rect.unit (s := S48x256) ![0, 0] S4x256.size inb_S48x256_S4x256_0_0,
      shapeCast S4x256 (scaleW (tilePC (f 0))) shapeCasts_S4x256_S4x256⟩]

/-- The stores of scale words into the row scratch, at the rows of step `i`. -/
def rsPieces (i : grid0.Coords) (f : ℕ → FVec F S128x256 .f32) : List (View.Piece (Elt F) S128x1536 .i32) :=
  [⟨Rect.unit (s := S128x1536) (k0_off12 i) S8x128.size (k0_off12_inb i),
      shapeCast S8x128 (scaleW (tilePR (f 11))) shapeCasts_S8x128_S8x128⟩,
   ⟨Rect.unit (s := S128x1536) (k0_off11 i) S8x128.size (k0_off11_inb i),
      shapeCast S8x128 (scaleW (tilePR (f 10))) shapeCasts_S8x128_S8x128⟩,
   ⟨Rect.unit (s := S128x1536) (k0_off10 i) S8x128.size (k0_off10_inb i),
      shapeCast S8x128 (scaleW (tilePR (f 9))) shapeCasts_S8x128_S8x128⟩,
   ⟨Rect.unit (s := S128x1536) (k0_off9 i) S8x128.size (k0_off9_inb i),
      shapeCast S8x128 (scaleW (tilePR (f 8))) shapeCasts_S8x128_S8x128⟩,
   ⟨Rect.unit (s := S128x1536) (k0_off8 i) S8x128.size (k0_off8_inb i),
      shapeCast S8x128 (scaleW (tilePR (f 7))) shapeCasts_S8x128_S8x128⟩,
   ⟨Rect.unit (s := S128x1536) (k0_off7 i) S8x128.size (k0_off7_inb i),
      shapeCast S8x128 (scaleW (tilePR (f 6))) shapeCasts_S8x128_S8x128⟩,
   ⟨Rect.unit (s := S128x1536) (k0_off6 i) S8x128.size (k0_off6_inb i),
      shapeCast S8x128 (scaleW (tilePR (f 5))) shapeCasts_S8x128_S8x128⟩,
   ⟨Rect.unit (s := S128x1536) (k0_off5 i) S8x128.size (k0_off5_inb i),
      shapeCast S8x128 (scaleW (tilePR (f 4))) shapeCasts_S8x128_S8x128⟩,
   ⟨Rect.unit (s := S128x1536) (k0_off4 i) S8x128.size (k0_off4_inb i),
      shapeCast S8x128 (scaleW (tilePR (f 3))) shapeCasts_S8x128_S8x128⟩,
   ⟨Rect.unit (s := S128x1536) (k0_off3 i) S8x128.size (k0_off3_inb i),
      shapeCast S8x128 (scaleW (tilePR (f 2))) shapeCasts_S8x128_S8x128⟩,
   ⟨Rect.unit (s := S128x1536) (k0_off2 i) S8x128.size (k0_off2_inb i),
      shapeCast S8x128 (scaleW (tilePR (f 1))) shapeCasts_S8x128_S8x128⟩,
   ⟨Rect.unit (s := S128x1536) (k0_off1 i) S8x128.size (k0_off1_inb i),
      shapeCast S8x128 (scaleW (tilePR (f 0))) shapeCasts_S8x128_S8x128⟩]

end Cert.KernelIdeal.Run

end
-- ==== Proof.Loads.lean ====
/- The loads of the 12 tiles of a step. -/
module

public import proofs.«01_k».proof.Proof.Tile

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL

variable {F : FTy → Type} [FloatOps F]

/-- The loads of the 12 tiles of a window at `x`, as the body makes them. -/
def loads (a : Memref sig .tc .vmem S1536x256 .bf16) (h : a.IsWhole) (x : Vec F S1536x256 .bf16) :
    ℕ → Vec F S128x256 .bf16
  | 0 => View.readAt (Elt F) a.view (Rect.unit (s := S1536x256) ![0, 0] S128x256.size inb_S1536x256_S128x256_0_0).toLoadRect (h.unread x)
  | 1 => View.readAt (Elt F) a.view (Rect.unit (s := S1536x256) ![128, 0] S128x256.size inb_S1536x256_S128x256_128_0).toLoadRect (h.unread x)
  | 2 => View.readAt (Elt F) a.view (Rect.unit (s := S1536x256) ![256, 0] S128x256.size inb_S1536x256_S128x256_256_0).toLoadRect (h.unread x)
  | 3 => View.readAt (Elt F) a.view (Rect.unit (s := S1536x256) ![384, 0] S128x256.size inb_S1536x256_S128x256_384_0).toLoadRect (h.unread x)
  | 4 => View.readAt (Elt F) a.view (Rect.unit (s := S1536x256) ![512, 0] S128x256.size inb_S1536x256_S128x256_512_0).toLoadRect (h.unread x)
  | 5 => View.readAt (Elt F) a.view (Rect.unit (s := S1536x256) ![640, 0] S128x256.size inb_S1536x256_S128x256_640_0).toLoadRect (h.unread x)
  | 6 => View.readAt (Elt F) a.view (Rect.unit (s := S1536x256) ![768, 0] S128x256.size inb_S1536x256_S128x256_768_0).toLoadRect (h.unread x)
  | 7 => View.readAt (Elt F) a.view (Rect.unit (s := S1536x256) ![896, 0] S128x256.size inb_S1536x256_S128x256_896_0).toLoadRect (h.unread x)
  | 8 => View.readAt (Elt F) a.view (Rect.unit (s := S1536x256) ![1024, 0] S128x256.size inb_S1536x256_S128x256_1024_0).toLoadRect (h.unread x)
  | 9 => View.readAt (Elt F) a.view (Rect.unit (s := S1536x256) ![1152, 0] S128x256.size inb_S1536x256_S128x256_1152_0).toLoadRect (h.unread x)
  | 10 => View.readAt (Elt F) a.view (Rect.unit (s := S1536x256) ![1280, 0] S128x256.size inb_S1536x256_S128x256_1280_0).toLoadRect (h.unread x)
  | _ => View.readAt (Elt F) a.view (Rect.unit (s := S1536x256) ![1408, 0] S128x256.size inb_S1536x256_S128x256_1408_0).toLoadRect (h.unread x)

/-- The derivative on the 12 tiles, as loaded. -/
def loadF (a : Memref sig .tc .vmem S1536x256 .bf16) (h : a.IsWhole)
    (b : Memref sig .tc .vmem S1536x256 .bf16) (hb : b.IsWhole) (x0 x1 : Vec F S1536x256 .bf16)
    (k : ℕ) : FVec F S128x256 .f32 := tileF (loads a h x0 k) (loads b hb x1 k)

end Cert.KernelIdeal.Run

end
-- ==== Proof.Blocks.lean ====
/- What the stores of a step leave: the lists of Tile.lean read back, each as a function of the tiles. -/
module

public import proofs.«01_k».proof.Proof.Loads
public import Idealize.ShloMosaic.Lib.WritesUnit
public import Idealize.ShloMosaic.Lib.VecWindow
public import Idealize.ShloMosaic.Lib.WholeRead
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL

variable {F : FTy → Type} [FloatOps F]

/-- Tokens `128 k` to `128 k + 127` of a window at `x`. -/
def slab (x : Vec F S1536x256 .bf16) (k : ℕ) : Vec F S128x256 .bf16 := fun y =>
  x (ix2 ⟨(128 * k + (y 0).val) % 1536, Nat.mod_lt _ (by decide)⟩ ⟨(y 1).val, idx2_lt1 y⟩)

/-- The derivative on tile `k` of a window. -/
def blockF (x0 x1 : Vec F S1536x256 .bf16) (k : ℕ) : FVec F S128x256 .f32 :=
  tileF (slab x0 k) (slab x1 k)

/-- A load of tile `k` reads tokens `128 k` to `128 k + 127`. -/
theorem loads_eq (a : Memref sig .tc .vmem S1536x256 .bf16) (h : a.IsWhole)
    (x : Vec F S1536x256 .bf16) (k : ℕ) (hk : k < 12) : loads a h x k = slab x k := by
  have key : ∀ (o : ℕ) (inb : ∀ a, (![o, 0] : Fin 2 → ℕ) a + S128x256.size a ≤ S1536x256.size a),
      o = 128 * k → (View.readAt (Elt F) a.view (Rect.unit (s := S1536x256) ![o, 0] S128x256.size inb).toLoadRect
        (h.unread x) : Vec F S128x256 .bf16) = slab x k := by
    intro o inb ho
    funext y
    refine (h.readAt_unread _ _ _).trans ?_
    unfold slab
    congr 1
    have h0 : (y 0).val < 128 := idx2_lt0 y
    funext d
    match d with
    | ⟨0, _⟩ => apply Fin.ext; show o + 1 * (y 0).val = (128 * k + (y 0).val) % 1536; omega
    | ⟨1, _⟩ => apply Fin.ext; show 0 + 1 * (y 1).val = (y 1).val; omega
  interval_cases k <;> exact key _ _ rfl

/-- The derivative as loaded is the derivative on the tile. -/
theorem loadF_eq (a : Memref sig .tc .vmem S1536x256 .bf16) (h : a.IsWhole)
    (b : Memref sig .tc .vmem S1536x256 .bf16) (hb : b.IsWhole) (x0 x1 : Vec F S1536x256 .bf16)
    (k : ℕ) (hk : k < 12) : loadF a h b hb x0 x1 k = blockF x0 x1 k := by
  unfold loadF blockF; rw [loads_eq a h x0 k hk, loads_eq b hb x1 k hk]

section congruence

variable {f g : ℕ → FVec F S128x256 .f32} (h : ∀ k, k < 12 → f k = g k)
include h

theorem rcPieces_congr : rcPieces f = rcPieces g := by simp only [rcPieces, h, Nat.reduceLT]
theorem ccPieces_congr : ccPieces f = ccPieces g := by simp only [ccPieces, h, Nat.reduceLT]
theorem csPieces_congr : csPieces f = csPieces g := by simp only [csPieces, h, Nat.reduceLT]
theorem rsPieces_congr (i : grid0.Coords) : rsPieces i f = rsPieces i g := by
  simp only [rsPieces, h, Nat.reduceLT]
theorem accOf_congr (n : ℕ) (hn : n ≤ 12) : accOf f n = accOf g n := by
  induction n with
  | zero => rfl
  | succ n ih => simp only [accOf, ih (by omega), h n (by omega)]
theorem sumOut_congr : sumOut f = sumOut g := by
  unfold sumOut; rw [accOf_congr h 12 le_rfl]

end congruence

/-- The row codes of a step: tile by tile down the tokens. -/
def rcOut (f : ℕ → FVec F S128x256 .f32) : Vec F S1536x256 .fp8e4m3 := fun y =>
  tileRC (f ((y 0).val / 128)) (ix2 ⟨(y 0).val % 128, Nat.mod_lt _ (by decide)⟩ ⟨(y 1).val, idx2_lt1 y⟩)

/-- The column codes of a step: tile by tile across the tokens. -/
def ccOut (f : ℕ → FVec F S128x256 .f32) : Vec F S256x1536 .fp8e4m3 := fun y =>
  tileCC (f ((y 1).val / 128)) (ix2 ⟨(y 0).val, idx2_lt0 y⟩ ⟨(y 1).val % 128, Nat.mod_lt _ (by decide)⟩)

/-- The column scale words of a step, blocks down, channels across. -/
def csAll (f : ℕ → FVec F S128x256 .f32) : Vec F S48x256 .i32 := fun y =>
  scaleW (tilePC (f ((y 0).val / 4))) (ix2 ⟨(y 0).val % 4, Nat.mod_lt _ (by decide)⟩ ⟨(y 1).val, idx2_lt1 y⟩)

/-- The row scale word of block `b` of a step at token `n`. -/
def rsWord (f : ℕ → FVec F S128x256 .f32) (b n : ℕ) : BitVec 32 :=
  scaleW (tilePR (f (n / 128))) (ix2 ⟨b % 8, Nat.mod_lt _ (by decide)⟩ ⟨n % 128, Nat.mod_lt _ (by decide)⟩)

/-- The row scratch after step `j` of a group: its own eight rows new, the others as before. -/
def rsStep (j : ℕ) (f : ℕ → FVec F S128x256 .f32) (x : Vec F S128x1536 .i32) : Vec F S128x1536 .i32 := fun y =>
  if 8 * j ≤ (y 0).val ∧ (y 0).val < 8 * j + 8 then rsWord f ((y 0).val - 8 * j) (y 1).val else x y

theorem rcPieces_tile (f : ℕ → FVec F S128x256 .f32) :
    rcPieces f = View.tilePieces (Val := Elt F) (s := S1536x256) (e := .fp8e4m3) S128x256.size
      (fun k : Fin 12 => ![128 * k.val, 0])
      (fun k => Fin.forall_fin_two.mpr ⟨show 128 * k.val + 128 ≤ 1536 by omega, show 0 + 256 ≤ 256 by omega⟩)
      (fun k => tileRC (f k.val)) 12 le_rfl := by
  sl_kernel_rfl

theorem ccPieces_tile (f : ℕ → FVec F S128x256 .f32) :
    ccPieces f = View.tilePieces (Val := Elt F) (s := S256x1536) (e := .fp8e4m3) S256x128.size
      (fun k : Fin 12 => ![0, 128 * k.val])
      (fun k => Fin.forall_fin_two.mpr ⟨show 0 + 256 ≤ 256 by omega, show 128 * k.val + 128 ≤ 1536 by omega⟩)
      (fun k => tileCC (f k.val)) 12 le_rfl := by
  sl_kernel_rfl

theorem csPieces_tile (f : ℕ → FVec F S128x256 .f32) :
    csPieces f = View.tilePieces (Val := Elt F) (s := S48x256) (e := .i32) S4x256.size
      (fun k : Fin 12 => ![4 * k.val, 0])
      (fun k => Fin.forall_fin_two.mpr ⟨show 4 * k.val + 4 ≤ 48 by omega, show 0 + 256 ≤ 256 by omega⟩)
      (fun k => shapeCast S4x256 (scaleW (tilePC (f k.val))) shapeCasts_S4x256_S4x256) 12 le_rfl := by
  sl_kernel_rfl

/-- The offsets of the stores into the row scratch, by tile. -/
def rsOff (i : grid0.Coords) : Fin 12 → Fin 2 → ℕ :=
  ![k0_off1 i, k0_off2 i, k0_off3 i, k0_off4 i, k0_off5 i, k0_off6 i, k0_off7 i, k0_off8 i, k0_off9 i,
    k0_off10 i, k0_off11 i, k0_off12 i]

theorem rsOff_eq (i : grid0.Coords) (k : Fin 12) : rsOff i k = ![8 * (i 1).val, 128 * k.val] := by
  have hi : (i 1).val < 16 := (i 1).isLt
  have hm : (BitVec.ofNat 32 (i 1).val * 8#32).toNat = 8 * (i 1).val := by
    rw [BitVec.toNat_mul, BitVec.toNat_ofNat, BitVec.toNat_ofNat]; omega
  fin_cases k <;> exact congrArg (fun n => (![n, _] : Fin 2 → ℕ)) hm

theorem rsOff_inb (i : grid0.Coords) (k : Fin 12) : ∀ a, rsOff i k a + S8x128.size a ≤ S128x1536.size a := by
  have hi : (i 1).val < 16 := (i 1).isLt
  rw [rsOff_eq]
  exact Fin.forall_fin_two.mpr ⟨show 8 * (i 1).val + 8 ≤ 128 by omega, show 128 * k.val + 128 ≤ 1536 by omega⟩

theorem rsPieces_tile (i : grid0.Coords) (f : ℕ → FVec F S128x256 .f32) :
    rsPieces i f = View.tilePieces (Val := Elt F) (s := S128x1536) (e := .i32) S8x128.size (rsOff i) (rsOff_inb i)
      (fun k => shapeCast S8x128 (scaleW (tilePR (f k.val))) shapeCasts_S8x128_S8x128) 12 le_rfl := by
  sl_kernel_rfl

section reads

variable {sig' : RefSig} {κ : Kind} {sp : Space}

/-- The code stores read back, blocks along the channels. -/
theorem read_rc (v : View sig' κ sp S1536x256 .fp8e4m3) (b : v.ty.Contents (Elt F)) (f : ℕ → FVec F S128x256 .f32) :
    v.read (Elt F) (v.writes (Elt F) b (rcPieces f)) = rcOut f := by
  rw [rcPieces_tile]
  funext y
  have h0 : (y 0).val < 1536 := idx2_lt0 y
  refine View.read_tilePieces v b _ _ _ _ 12 le_rfl y ⟨(y 0).val / 128, by omega⟩ (by show _ < 12; omega)
    (ix2 ⟨(y 0).val % 128, Nat.mod_lt _ (by decide)⟩ ⟨(y 1).val, idx2_lt1 y⟩) ?_ 0 ?_
  · exact Fin.forall_fin_two.mpr ⟨by show (y 0).val = 128 * ((y 0).val / 128) + (y 0).val % 128; omega,
      by show (y 1).val = 0 + (y 1).val; omega⟩
  · intro k hk
    have : k.val ≠ (y 0).val / 128 := fun h => hk (Fin.ext h)
    show (y 0).val < 128 * k.val ∨ 128 * k.val + 128 ≤ (y 0).val
    omega

/-- The code stores read back, blocks along the tokens. -/
theorem read_cc (v : View sig' κ sp S256x1536 .fp8e4m3) (b : v.ty.Contents (Elt F)) (f : ℕ → FVec F S128x256 .f32) :
    v.read (Elt F) (v.writes (Elt F) b (ccPieces f)) = ccOut f := by
  rw [ccPieces_tile]
  funext y
  have h1 : (y 1).val < 1536 := idx2_lt1 y
  refine View.read_tilePieces v b _ _ _ _ 12 le_rfl y ⟨(y 1).val / 128, by omega⟩ (by show _ < 12; omega)
    (ix2 ⟨(y 0).val, idx2_lt0 y⟩ ⟨(y 1).val % 128, Nat.mod_lt _ (by decide)⟩) ?_ 1 ?_
  · exact Fin.forall_fin_two.mpr ⟨by show (y 0).val = 0 + (y 0).val; omega,
      by show (y 1).val = 128 * ((y 1).val / 128) + (y 1).val % 128; omega⟩
  · intro k hk
    have : k.val ≠ (y 1).val / 128 := fun h => hk (Fin.ext h)
    show (y 1).val < 128 * k.val ∨ 128 * k.val + 128 ≤ (y 1).val
    omega

theorem shapeCast_self_4x256 (x : IVec S4x256 32) : shapeCast S4x256 x shapeCasts_S4x256_S4x256 = x :=
  shapeCast_self _ _
theorem shapeCast_self_8x128 (x : IVec S8x128 32) : shapeCast S8x128 x shapeCasts_S8x128_S8x128 = x :=
  shapeCast_self _ _

/-- The scale words stored into the column scratch read back. -/
theorem read_cs (v : View sig' κ sp S48x256 .i32) (b : v.ty.Contents (Elt F)) (f : ℕ → FVec F S128x256 .f32) :
    v.read (Elt F) (v.writes (Elt F) b (csPieces f)) = csAll f := by
  rw [csPieces_tile]
  simp only [shapeCast_self_4x256]
  funext y
  have h0 : (y 0).val < 48 := idx2_lt0 y
  refine View.read_tilePieces v b _ _ _ _ 12 le_rfl y ⟨(y 0).val / 4, by omega⟩ (by show _ < 12; omega)
    (ix2 ⟨(y 0).val % 4, Nat.mod_lt _ (by decide)⟩ ⟨(y 1).val, idx2_lt1 y⟩) ?_ 0 ?_
  · exact Fin.forall_fin_two.mpr ⟨by show (y 0).val = 4 * ((y 0).val / 4) + (y 0).val % 4; omega,
      by show (y 1).val = 0 + (y 1).val; omega⟩
  · intro k hk
    have : k.val ≠ (y 0).val / 4 := fun h => hk (Fin.ext h)
    show (y 0).val < 4 * k.val ∨ 4 * k.val + 4 ≤ (y 0).val
    omega

/-- The scale words stored into the row scratch read back, over what it held. -/
theorem read_rs (i : grid0.Coords) (v : View sig' κ sp S128x1536 .i32) (b : v.ty.Contents (Elt F))
    (f : ℕ → FVec F S128x256 .f32) :
    v.read (Elt F) (v.writes (Elt F) b (rsPieces i f)) = rsStep (i 1).val f (v.read (Elt F) b) := by
  rw [rsPieces_tile]
  simp only [shapeCast_self_8x128]
  funext y
  have h1 : (y 1).val < 1536 := idx2_lt1 y
  have e0 : ∀ k, rsOff i k 0 = 8 * (i 1).val := fun k => by rw [rsOff_eq]; rfl
  have e1 : ∀ k : Fin 12, rsOff i k 1 = 128 * k.val := fun k => by rw [rsOff_eq]; rfl
  unfold rsStep rsWord
  by_cases h : 8 * (i 1).val ≤ (y 0).val ∧ (y 0).val < 8 * (i 1).val + 8
  · rw [if_pos h]
    refine View.read_tilePieces v b _ _ _ _ 12 le_rfl y ⟨(y 1).val / 128, by omega⟩ (by show _ < 12; omega)
      (ix2 ⟨((y 0).val - 8 * (i 1).val) % 8, Nat.mod_lt _ (by decide)⟩ ⟨(y 1).val % 128, Nat.mod_lt _ (by decide)⟩) ?_ 1 ?_
    · refine Fin.forall_fin_two.mpr ⟨?_, ?_⟩
      · rw [e0]; show (y 0).val = 8 * (i 1).val + ((y 0).val - 8 * (i 1).val) % 8; omega
      · rw [e1]; show (y 1).val = 128 * ((y 1).val / 128) + (y 1).val % 128; omega
    · intro k hk
      have : k.val ≠ (y 1).val / 128 := fun h => hk (Fin.ext h)
      rw [e1]
      show (y 1).val < 128 * k.val ∨ 128 * k.val + 128 ≤ (y 1).val
      omega
  · rw [if_neg h]
    refine View.read_tilePieces_miss v b _ _ _ _ 12 le_rfl y 0 fun k _ => ?_
    rw [e0]
    show (y 0).val < 8 * (i 1).val ∨ 8 * (i 1).val + 8 ≤ (y 0).val
    omega

end reads

end Cert.KernelIdeal.Run

end
-- ==== Proof.RunFirst.lean ====
/- The run of the kernel body at a point that is not the last of its group. -/
module

public import proofs.«01_k».proof.Proof.RunKit

@[expose] public section

-- rectangles of long axes: the elaborator's structural look recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1492000 in
/-- The body at a point that is not the last of its group: on whole staging memrefs, the inputs at `x0`, `x1`, the row-scale scratch at `x9`, it runs to the
    end; what it stored into each output, into the row-scale scratch and into the column-scale scratch are the lists of
    pieces (last store first) that the run finds. -/
noncomputable def runFirst (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    Σ' (L2 : List (View.Piece (Elt F) S1x256 .f32)), Σ' (L3 : List (View.Piece (Elt F) S1536x256 .fp8e4m3)), Σ' (L4 : List (View.Piece (Elt F) S1536x128 .i8)), Σ' (L5 : List (View.Piece (Elt F) S256x1536 .fp8e4m3)), Σ' (L6 : List (View.Piece (Elt F) S256x48 .i8)), Σ' (LT0 : List (View.Piece (Elt F) S128x1536 .i32)), { LT1 : List (View.Piece (Elt F) S48x256 .i32) //
      ∀ (xi4 : Vec F S1536x128 .i8) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x9) LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_gelu_bwd_mxfp8 i arg2 harg2 arg3 harg3 arg4 harg4 arg5 harg5 arg6 harg6 arg7 harg7 arg8 harg8 arg9 harg9 arg10 harg10) K } := by
  refine ⟨?_, ?_, [], ?_, ?_, ?_, ?_, fun xi4 E K => ?run⟩
  case run =>
    simp only [cc0_gelu_bwd_mxfp8_eq_skeleton]; unfold cc0_gelu_bwd_mxfp8_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part70_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%d5, %f5, -, H5⟩, ⟨%d6, %f6, -, H6⟩, ⟨%fs0, %hfs0, HS0⟩, ⟨%ds1, %fs1, -, HS1⟩, Hk⟩
    obtain rfl := harg2.eq_unread hf0; obtain rfl := harg3.eq_unread hf1; obtain rfl := harg6.eq_unread hf4
    obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]; · iexists _; iexact H5
    isplitl [H6]; · iexists _; iexact H6
    isplitl [HS0]; · iexact HS0
    iexists _; iexact HS1

end Cert.KernelIdeal.Run

end
-- ==== Proof.RunFirstPieces.lean ====
/- The pieces that the run of `runFirst` finds, as the lists of one tile treatment. -/
module

public import proofs.«01_k».proof.Proof.Loads
public import proofs.«01_k».proof.Proof.RunFirst

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL

variable {F : FTy → Type} [FloatOps F]

set_option maxHeartbeats 4000000 in
theorem runFirst_rc (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).2.1 = rcPieces (loadF arg2 harg2 arg3 harg3 x0 x1) := by
  sl_kernel_rfl

set_option maxHeartbeats 4000000 in
theorem runFirst_cc (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).2.2.2.1 = ccPieces (loadF arg2 harg2 arg3 harg3 x0 x1) := by
  sl_kernel_rfl

set_option maxHeartbeats 4000000 in
theorem runFirst_rs (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).2.2.2.2.2.1 = rsPieces i (loadF arg2 harg2 arg3 harg3 x0 x1) := by
  sl_kernel_rfl

set_option maxHeartbeats 4000000 in
theorem runFirst_cs (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).2.2.2.2.2.2.1 = csPieces (loadF arg2 harg2 arg3 harg3 x0 x1) := by
  sl_kernel_rfl

set_option maxHeartbeats 4000000 in
theorem runFirst_db (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).1 = [⟨Rect.unit (s := S1x256) ![0, 0] S1x256.size inb_S1x256_S1x256_0_0, sumOut (loadF arg2 harg2 arg3 harg3 x0 x1)⟩] := by
  sl_kernel_rfl

set_option maxHeartbeats 4000000 in
theorem runFirst_co (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : ¬cond0_0 i)
    (x0 : Vec F S1536x256 .bf16) (x1 : Vec F S1536x256 .bf16) (x9 : Vec F S128x1536 .i32) :
    (runFirst c i arg2 harg2 arg3 harg3 arg4 harg4 arg5 harg5 arg6 harg6 arg7 harg7 arg8 harg8 arg9 harg9 arg10 harg10 hc0 x0 x1 x9).2.2.2.2.1 = [⟨Rect.unit (s := S256x48) ![0, 0] S256x48.size inb_S256x48_S256x48_0_0,
      k0_pay313 (arg10.view.readCov (csPieces (loadF arg2 harg2 arg3 harg3 x0 x1)) (Rect.unit (s := S48x256) ![0, 0] S48x256.size inb_S48x256_S48x256_0_0).toLoadRect)⟩] := by
  sl_kernel_rfl

end Cert.KernelIdeal.Run

end
-- ==== Proof.RunLast.lean ====
/- The run of the kernel body at the last point of a group (points 15, 31, 47, 63). -/
module

public import proofs.«01_k».proof.Proof.RunFirst

@[expose] public section

-- rectangles of long axes: the elaborator's structural look recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1500000 in
/-- The body at the last point of a group (points 15, 31, 47, 63): on whole staging memrefs, the inputs at `x0`, `x1`, the row-scale scratch at `x9`, it runs to the
    end; what it stored into each output, into the row-scale scratch and into the column-scale scratch are the lists of
    pieces (last store first) that the run finds. -/
noncomputable def runLast (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    Σ' (L2 : List (View.Piece (Elt F) S1x256 .f32)), Σ' (L3 : List (View.Piece (Elt F) S1536x256 .fp8e4m3)), Σ' (L4 : List (View.Piece (Elt F) S1536x128 .i8)), Σ' (L5 : List (View.Piece (Elt F) S256x1536 .fp8e4m3)), Σ' (L6 : List (View.Piece (Elt F) S256x48 .i8)), Σ' (LT0 : List (View.Piece (Elt F) S128x1536 .i32)), { LT1 : List (View.Piece (Elt F) S48x256 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x9) LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_gelu_bwd_mxfp8 i arg2 harg2 arg3 harg3 arg4 harg4 arg5 harg5 arg6 harg6 arg7 harg7 arg8 harg8 arg9 harg9 arg10 harg10) K } := by
  refine ⟨?_, ?_, ?_, ?_, ?_, ?_, ?_, fun E K => ?run⟩
  case run =>
    simp only [cc0_gelu_bwd_mxfp8_eq_skeleton]; unfold cc0_gelu_bwd_mxfp8_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part70_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%ds1, %fs1, -, HS1⟩, Hk⟩
    obtain rfl := harg2.eq_unread hf0; obtain rfl := harg3.eq_unread hf1
    obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    iexists _; iexact HS1

end Cert.KernelIdeal.Run

end
-- ==== Proof.RunLastPieces.lean ====
/- The pieces that the run of `runLast` finds, as the lists of one tile treatment. -/
module

public import proofs.«01_k».proof.Proof.Loads
public import proofs.«01_k».proof.Proof.RunLast

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL

variable {F : FTy → Type} [FloatOps F]

set_option maxHeartbeats 4000000 in
theorem runLast_rc (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.1 = rcPieces (loadF arg2 harg2 arg3 harg3 x0 x1) := by
  sl_kernel_rfl

set_option maxHeartbeats 4000000 in
theorem runLast_cc (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.2.2.1 = ccPieces (loadF arg2 harg2 arg3 harg3 x0 x1) := by
  sl_kernel_rfl

set_option maxHeartbeats 4000000 in
theorem runLast_rs (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.2.2.2.2.1 = rsPieces i (loadF arg2 harg2 arg3 harg3 x0 x1) := by
  sl_kernel_rfl

set_option maxHeartbeats 4000000 in
theorem runLast_cs (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.2.2.2.2.2.1 = csPieces (loadF arg2 harg2 arg3 harg3 x0 x1) := by
  sl_kernel_rfl

set_option maxHeartbeats 4000000 in
theorem runLast_db (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).1 = [⟨Rect.unit (s := S1x256) ![0, 0] S1x256.size inb_S1x256_S1x256_0_0, sumOut (loadF arg2 harg2 arg3 harg3 x0 x1)⟩] := by
  sl_kernel_rfl

set_option maxHeartbeats 4000000 in
theorem runLast_co (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.2.2.2.1 = [⟨Rect.unit (s := S256x48) ![0, 0] S256x48.size inb_S256x48_S256x48_0_0,
      k0_pay313 (arg10.view.readCov (csPieces (loadF arg2 harg2 arg3 harg3 x0 x1)) (Rect.unit (s := S48x256) ![0, 0] S48x256.size inb_S48x256_S48x256_0_0).toLoadRect)⟩] := by
  sl_kernel_rfl

set_option maxHeartbeats 4000000 in
theorem runLast_ro (c : Dev nD) (i : grid0.Coords) (arg2 : Memref sig .tc .vmem S1536x256 .bf16) (harg2 : arg2.IsWhole) (arg3 : Memref sig .tc .vmem S1536x256 .bf16) (harg3 : arg3.IsWhole) (arg4 : Memref sig .tc .vmem S1x256 .f32) (harg4 : arg4.IsWhole) (arg5 : Memref sig .tc .vmem S1536x256 .fp8e4m3) (harg5 : arg5.IsWhole) (arg6 : Memref sig .tc .vmem S1536x128 .i8) (harg6 : arg6.IsWhole) (arg7 : Memref sig .tc .vmem S256x1536 .fp8e4m3) (harg7 : arg7.IsWhole) (arg8 : Memref sig .tc .vmem S256x48 .i8) (harg8 : arg8.IsWhole) (arg9 : Memref sig .tc .vmem S128x1536 .i32) (harg9 : arg9.IsWhole) (arg10 : Memref sig .tc .vmem S48x256 .i32) (harg10 : arg10.IsWhole) (hc0 : cond0_0 i)
    (x0 : Vec F S1536x256 .bf16) (x1 : Vec F S1536x256 .bf16) (x9 : Vec F S128x1536 .i32) :
    (runLast c i arg2 harg2 arg3 harg3 arg4 harg4 arg5 harg5 arg6 harg6 arg7 harg7 arg8 harg8 arg9 harg9 arg10 harg10 hc0 x0 x1 x9).2.2.1 = [⟨Rect.unit (s := S1536x128) ![0, 0] S1536x128.size inb_S1536x128_S1536x128_0_0,
      k0_pay314 (View.readAt (Elt F) arg9.view (Rect.unit (s := S128x1536) ![0, 0] S128x1536.size inb_S128x1536_S128x1536_0_0).toLoadRect
        (arg9.view.writes (Elt F) (harg9.unread x9) (rsPieces i (loadF arg2 harg2 arg3 harg3 x0 x1))))⟩] := by
  sl_kernel_rfl

end Cert.KernelIdeal.Run

end
-- ==== Proof.Body.lean ====
/- The body at every grid point, and the run of the whole kernel: the row-scale scratch is carried from
   point to point of a group of 16, so the invariant between points says which of its rows are written. -/
module

public import proofs.«01_k».proof.Proof.Blocks
public import proofs.«01_k».proof.Proof.RunFirstPieces
public import proofs.«01_k».proof.Proof.RunLastPieces
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The derivative on the tiles of point `t`'s window. -/
def ptF (c : Dev nD) (t : Fin cfg0.N) : ℕ → FVec F S128x256 .f32 := blockF (iblk m c 0 t) (iblk m c 1 t)

/-- Point `n`, counted around. -/
def pt (n : ℕ) : Fin cfg0.N := ⟨n % 64, lt_of_lt_of_eq (Nat.mod_lt _ (by decide)) N_0.symm⟩

theorem pt_val (t : Fin cfg0.N) : pt t.val = t :=
  Fin.ext (Nat.mod_eq_of_lt (lt_of_lt_of_eq t.isLt (show cfg0.N = 64 from N_0)))

/-- The row scale words of group `o`, whole: row `8 j + b` is block `b` of its step `j`. -/
def rsGroup (c : Dev nD) (o : ℕ) : Vec F S128x1536 .i32 := fun y =>
  rsWord (ptF m c (pt (16 * o + (y 0).val / 8))) ((y 0).val % 8) (y 1).val

/-- The row scratch before point `n`: the rows of the group's earlier steps hold their words. -/
def Held (c : Dev nD) (n : ℕ) (x : Vec F S128x1536 .i32) : Prop :=
  ∀ y : S128x1536.Idx, (y 0).val < 8 * (n % 16) → x y = rsGroup m c (n / 16) y

theorem held_zero (c : Dev nD) (n : ℕ) (h : n % 16 = 0) (x : Vec F S128x1536 .i32) : Held m c n x := fun y hy => by
  rw [h] at hy; exact absurd hy (Nat.not_lt_zero _)

theorem coords1 (t : Fin cfg0.N) : (grid0.coords t 1).val = t.val % 16 := by
  have e1 : (grid0.coords t 1).val = t.val / 1 % 16 := Pipeline.Grid.coords_val t 1 (by decide) rfl
  rw [e1, Nat.div_one]

/-- A step fills its own eight rows and keeps the earlier ones. -/
theorem step_row (c : Dev nD) (t : Fin cfg0.N) (x : Vec F S128x1536 .i32) (h : Held m c t.val x) (y : S128x1536.Idx)
    (hy : (y 0).val < 8 * (t.val % 16 + 1)) :
    rsStep (grid0.coords t 1).val (ptF m c t) x y = rsGroup m c (t.val / 16) y := by
  rw [coords1]
  unfold rsStep
  by_cases h8 : 8 * (t.val % 16) ≤ (y 0).val ∧ (y 0).val < 8 * (t.val % 16) + 8
  · rw [if_pos h8]
    unfold rsGroup
    rw [show 16 * (t.val / 16) + (y 0).val / 8 = t.val by omega, pt_val,
      show (y 0).val - 8 * (t.val % 16) = (y 0).val % 8 by omega]
  · rw [if_neg h8]; exact h y (by omega)

theorem held_step (c : Dev nD) (t : Fin cfg0.N) (ht : ¬t.val % 16 = 15) (x : Vec F S128x1536 .i32) (h : Held m c t.val x) :
    Held m c (t.val + 1) (rsStep (grid0.coords t 1).val (ptF m c t) x) := fun y hy => by
  rw [show (t.val + 1) / 16 = t.val / 16 by omega]
  exact step_row m c t x h y (by omega)

theorem step_last (c : Dev nD) (t : Fin cfg0.N) (ht : t.val % 16 = 15) (x : Vec F S128x1536 .i32) (h : Held m c t.val x) :
    rsStep (grid0.coords t 1).val (ptF m c t) x = rsGroup m c (t.val / 16) := by
  funext y
  have h0 : (y 0).val < 128 := idx2_lt0 y
  exact step_row m c t x h y (by omega)

/-! ## The proof data -/

/-- What the body carries between points: the row scratch with the earlier rows of the group written, the column
    scratch and the generator register at anything. -/
def carried (c : Dev nD) (n : ℕ) : sProp 𝕄 :=
  iprop(iprop((∃ x, ⌜Held m c n x⌝ ∗ owns (c : Thread nD τ) scM0_0 fullShare x) ∗ (∃ d, owns (c : Thread nD τ) scM0_1 fullShare d)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sumOut (ptF m c t)
    | ⟨3, _⟩ => rcOut (ptF m c t)
    | ⟨4, _⟩ => k0_pay314 (rsGroup m c (t.val / 16))
    | ⟨5, _⟩ => ccOut (ptF m c t)
    | ⟨6, _⟩ => k0_pay313 (csAll (ptF m c t))
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = sumOut (ptF m c t) := by dsimp only [dats]
theorem after0_3 (c : Dev nD) (t : Fin cfg0.N) : (dats m 0 c).after 3 t = rcOut (ptF m c t) := by dsimp only [dats]
theorem after0_4 (c : Dev nD) (t : Fin cfg0.N) : (dats m 0 c).after 4 t = k0_pay314 (rsGroup m c (t.val / 16)) := by dsimp only [dats]
theorem after0_5 (c : Dev nD) (t : Fin cfg0.N) : (dats m 0 c).after 5 t = ccOut (ptF m c t) := by dsimp only [dats]
theorem after0_6 (c : Dev nD) (t : Fin cfg0.N) : (dats m 0 c).after 6 t = k0_pay313 (csAll (ptF m c t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem carried_of (c : Dev nD) (n : ℕ) (x : Vec F S128x1536 .i32) (h : Held m c n x) :
    iprop(iprop(owns (c : Thread nD τ) scM0_0 fullShare x ∗ (∃ d, owns (c : Thread nD τ) scM0_1 fullShare d)) ∗ (∃ r, prngReg c r))
      ⊢ carried m c n := by
  unfold carried
  iintro ⟨⟨HS0, HS1⟩, Hg⟩
  isplitl [HS0 HS1]
  · isplitl [HS0]
    · iexists x; isplitr; · ipureintro; exact h
      iexact HS0
    iexact HS1
  iexact Hg

/-- The class's scratch at anything, before a group's first point, is the carried scratch; -/
theorem carried_in (c : Dev nD) (n : ℕ) (h : n % 16 = 0) : (Pipeline.ΦA spec0 c : sProp 𝕄) ⊢ carried m c n := by
  rw [PhiA0_eq]
  unfold carried
  iintro ⟨⟨⟨%x, HS0⟩, HS1⟩, Hg⟩
  isplitl [HS0 HS1]
  · isplitl [HS0]
    · iexists x; isplitr; · ipureintro; exact held_zero m c n h x
      iexact HS0
    iexact HS1
  iexact Hg

/-- and the carried scratch, what it holds forgotten, is the class's. -/
theorem carried_out (c : Dev nD) (n : ℕ) : carried m c n ⊢ (Pipeline.ΦA spec0 c : sProp 𝕄) := by
  rw [PhiA0_eq]
  unfold carried
  iintro ⟨⟨⟨%x, -, HS0⟩, HS1⟩, Hg⟩
  isplitl [HS0 HS1]
  · isplitl [HS0]
    · iexists x; iexact HS0
    iexact HS1
  iexact Hg

/-- The tiles as loaded from the staging buffers are the tiles of the window. -/
theorem ptF_loads (c : Dev nD) (t : Fin cfg0.N) (k : ℕ) (hk : k < 12) :
    loadF (ms0_0 t) (hs0_0 t) (ms0_1 t) (hs0_1 t) (iblk m c 0 t) (iblk m c 1 t) k = ptF m c t k :=
  loadF_eq _ _ _ _ _ _ k hk

set_option maxHeartbeats 1600000 in
/-- The body at a point that is not the last of its group. -/
theorem sound_first (c : Dev nD) (t : Fin cfg0.N) (h0 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_A t (fun h => h0 ((hcond0_0 t).mp h))) (noFlush0_4_A t (fun h => h0 ((hcond0_0 t).mp h)))]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  conv in carried m c t.val => unfold carried
  iintro ⟨⟨⟨⟨%x9, %hx9, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9).2.2.2.2.2.2.2 _ Set.univ _)
  isplitl [H0]; · iexact H0
  isplitl [H1]; · iexact H1
  isplitl [H2]; · iexists _; iexact H2
  isplitl [H3]; · iexists _; iexact H3
  isplitl [H4]; · iexact H4
  isplitl [H5]; · iexists _; iexact H5
  isplitl [H6]; · iexists _; iexact H6
  isplitl [HS0]; · iexact HS0
  isplitl [HS1]; · iexact HS1
  iintro ⟨H0, H1, ⟨%e2, H2⟩, ⟨%e3, H3⟩, H4, ⟨%e5, H5⟩, ⟨%e6, H6⟩, HS0, ⟨%fT1, HS1⟩⟩
  isplitl [HS0 HS1 Hg]
  · iapply (carried_of m c (t.val + 1) (rsStep (grid0.coords t 1).val (ptF m c t) x9) (held_step m c t h0 x9 hx9))
    isplitl [HS0 HS1]
    · isplitl [HS0]
      · unfold owns; iexists _; isplitr
        swap; · iexact HS0
        ipureintro
        rw [runFirst_rs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9, rsPieces_congr (ptF_loads m c t), read_rs, (Memref.isWhole_whole _).read_unread]
      iexists _; unfold owns; iexists _; isplitr
      swap; · iexact HS1
      ipureintro; rfl
    iexact Hg
  isplitl [Ho]; · iexact Ho
  isplitl [H0]; · iexact H0
  isplitl [H1]; · iexact H1
  isplitl [H2]
  · unfold owns; iexists _; isplitr
    swap; · iexact H2
    ipureintro
    rw [runFirst_db c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9, sumOut_congr (ptF_loads m c t)]; exact View.read_writes_full _ _ _ _ _
  isplitl [H3]
  · unfold owns; iexists _; isplitr
    swap; · iexact H3
    ipureintro
    rw [runFirst_rc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9, rcPieces_congr (ptF_loads m c t)]; exact read_rc _ _ _
  isplitl [H4]; · iexists _; iexact H4
  isplitl [H5]
  · unfold owns; iexists _; isplitr
    swap; · iexact H5
    ipureintro
    rw [runFirst_cc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9, ccPieces_congr (ptF_loads m c t)]; exact read_cc _ _ _
  unfold owns; iexists _; isplitr
  swap; · iexact H6
  ipureintro
  rw [runFirst_co c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) x9, csPieces_congr (ptF_loads m c t)]
  refine (View.read_writes_full _ _ _ _ _).trans ?_
  refine congrArg k0_pay313 ?_
  unfold View.readCov
  refine (View.readAt_full _ _ _).trans ?_
  exact read_cs _ _ _

set_option maxHeartbeats 1600000 in
/-- The body at a point that is  the last of its group. -/
theorem sound_last (c : Dev nD) (t : Fin cfg0.N) (h0 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_B t ((hcond0_0 t).mpr h0)], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  conv in carried m c t.val => unfold carried
  iintro ⟨⟨⟨⟨%x9, %hx9, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9).2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  iintro ⟨H0, H1, ⟨%e2, H2⟩, ⟨%e3, H3⟩, ⟨%e4, H4⟩, ⟨%e5, H5⟩, ⟨%e6, H6⟩, HS0, ⟨%fT1, HS1⟩⟩
  isplitl [HS0 HS1 Hg]
  · iapply (carried_of m c (t.val + 1) (rsStep (grid0.coords t 1).val (ptF m c t) x9) (held_zero m c (t.val + 1) (by omega) _))
    isplitl [HS0 HS1]
    · isplitl [HS0]
      · unfold owns; iexists _; isplitr
        swap; · iexact HS0
        ipureintro
        rw [runLast_rs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, rsPieces_congr (ptF_loads m c t), read_rs, (Memref.isWhole_whole _).read_unread]
      iexists _; unfold owns; iexists _; isplitr
      swap; · iexact HS1
      ipureintro; rfl
    iexact Hg
  isplitl [Ho]; · iexact Ho
  isplitl [H0]; · iexact H0
  isplitl [H1]; · iexact H1
  isplitl [H2]
  · unfold owns; iexists _; isplitr
    swap; · iexact H2
    ipureintro
    rw [runLast_db c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, sumOut_congr (ptF_loads m c t)]; exact View.read_writes_full _ _ _ _ _
  isplitl [H3]
  · unfold owns; iexists _; isplitr
    swap; · iexact H3
    ipureintro
    rw [runLast_rc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, rcPieces_congr (ptF_loads m c t)]; exact read_rc _ _ _
  isplitl [H4]
  · unfold owns; iexists _; isplitr
    swap; · iexact H4
    ipureintro
    rw [runLast_ro c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, rsPieces_congr (ptF_loads m c t)]
    refine (View.read_writes_full _ _ _ _ _).trans ?_
    rw [← step_last m c t h0 x9 hx9]
    refine congrArg k0_pay314 ?_
    refine (View.readAt_full _ _ _).trans ?_
    rw [read_rs, (Memref.isWhole_whole _).read_unread]
  isplitl [H5]
  · unfold owns; iexists _; isplitr
    swap; · iexact H5
    ipureintro
    rw [runLast_cc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, ccPieces_congr (ptF_loads m c t)]; exact read_cc _ _ _
  unfold owns; iexists _; isplitr
  swap; · iexact H6
  ipureintro
  rw [runLast_co c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) x9, csPieces_congr (ptF_loads m c t)]
  refine (View.read_writes_full _ _ _ _ _).trans ?_
  refine congrArg k0_pay313 ?_
  unfold View.readCov
  refine (View.readAt_full _ _ _).trans ?_
  exact read_cs _ _ _

theorem sound_body (c : Dev nD) (t : Fin cfg0.N) :
    bodyPre m c t ⊢ wp frame (wpE (defs₀ (F := F)) Variants.none c none) Set.univ (bodyAt0 t) (fun _ => bodyPost m c t) := by
  by_cases h0 : t.val % 16 = 15
  · exact sound_last m c t h0
  · exact sound_first m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c 0 rfl) (hout := fun c => carried_out m c _)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      post6 m r h c,
      kept_main_arg0 m r h c,
      kept_main_arg1 m r h c⟩)
    (run_main m ρ)

end Cert.KernelIdeal.Run

end
-- ==== Proof.Same.lean ====
/- The kernel as stated and the kernel read on extended reals are the same program, so a statement of one that holds at
   every reading of the floats is a statement of the other. -/
module

public import proofs.«01_k».proof.Defs
public import proofs.«01_k».proof.Proof.Gen.Kernel
public import proofs.«01_k».proof.Proof.Body

@[expose] public section

set_option maxRecDepth 16384

noncomputable section

namespace Cert.Kernel.Run

open Idealize.ShloMosaic Idealize.ShloMosaic.TcCoe Idealize.SL.Sem

/-- The frame of the kernel, at the floats of the machine. -/
theorem frame : @Cert.quiescent_Kernel Cert.Kernel.Gen.facts := by
  have h : @Cert.quiescent_Kernel Cert.Kernel.Gen.facts = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by
    sl_kernel_rfl
  rw [h]
  exact fun m g _ => Cert.KernelIdeal.Run.frame m g

end Cert.Kernel.Run

end
-- ==== Proof.Arrays.lean ====
/- The five result arrays of the kernel, each as one function of the two argument arrays. A step of
   the grid handles 256 channels; the row scales of 16 steps are written together. -/
module

public import proofs.«01_k».proof.Proof.Body

@[expose] public section

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The 256 channels of step `s`. -/
def strip (a : Vec F S1536x16384 .bf16) (s : ℕ) : Vec F S1536x256 .bf16 := fun y =>
  a (ix2 ⟨(y 0).val, idx2_lt0 y⟩ ⟨(256 * s + (y 1).val) % 16384, Nat.mod_lt _ (by decide)⟩)

/-- The derivative on the tiles of step `s`. -/
def sF (a0 a1 : Vec F S1536x16384 .bf16) (s : ℕ) : ℕ → FVec F S128x256 .f32 :=
  blockF (strip a0 s) (strip a1 s)

/-- The bias gradient. -/
def K2 (a0 a1 : Vec F S1536x16384 .bf16) : Vec F S1x16384 .f32 := fun y =>
  sumOut (sF a0 a1 ((y 1).val / 256)) (ix2 0 ⟨(y 1).val % 256, Nat.mod_lt _ (by decide)⟩)

/-- The row codes. -/
def K3 (a0 a1 : Vec F S1536x16384 .bf16) : Vec F S1536x16384 .fp8e4m3 := fun y =>
  rcOut (sF a0 a1 ((y 1).val / 256)) (ix2 ⟨(y 0).val, idx2_lt0 y⟩ ⟨(y 1).val % 256, Nat.mod_lt _ (by decide)⟩)

/-- The row scale words. -/
def K4 (a0 a1 : Vec F S1536x16384 .bf16) : Vec F S1536x512 .i8 := fun y =>
  (rsWord (sF a0 a1 ((y 1).val / 8)) ((y 1).val % 8) (y 0).val).setWidth 8

/-- The column codes. -/
def K5 (a0 a1 : Vec F S1536x16384 .bf16) : Vec F S16384x1536 .fp8e4m3 := fun y =>
  ccOut (sF a0 a1 ((y 0).val / 256)) (ix2 ⟨(y 0).val % 256, Nat.mod_lt _ (by decide)⟩ ⟨(y 1).val, idx2_lt1 y⟩)

/-- The column scale words. -/
def K6 (a0 a1 : Vec F S1536x16384 .bf16) : Vec F S16384x48 .i8 := fun y =>
  (csAll (sF a0 a1 ((y 0).val / 256)) (ix2 ⟨(y 1).val, idx2_lt1 y⟩ ⟨(y 0).val % 256, Nat.mod_lt _ (by decide)⟩)).setWidth 8

theorem index0 : ∀ t : Fin cfg0.N, win0_0.index t (0 : Fin 2) = 0 ∧ win0_0.index t (1 : Fin 2) = t.val :=
  (by decide +kernel : ∀ t : Fin grid0.N, _)

theorem index1 : ∀ t : Fin cfg0.N, win0_1.index t (0 : Fin 2) = 0 ∧ win0_1.index t (1 : Fin 2) = t.val :=
  (by decide +kernel : ∀ t : Fin grid0.N, _)

theorem index2 : ∀ t : Fin cfg0.N, win0_2.index t (0 : Fin 2) = 0 ∧ win0_2.index t (1 : Fin 2) = t.val :=
  (by decide +kernel : ∀ t : Fin grid0.N, _)

theorem index3 : ∀ t : Fin cfg0.N, win0_3.index t (0 : Fin 2) = 0 ∧ win0_3.index t (1 : Fin 2) = t.val :=
  (by decide +kernel : ∀ t : Fin grid0.N, _)

theorem index4 : ∀ t : Fin cfg0.N, win0_4.index t (0 : Fin 2) = 0 ∧ win0_4.index t (1 : Fin 2) = t.val / 16 :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index6 : ∀ t : Fin cfg0.N, win0_6.index t (0 : Fin 2) = t.val ∧ win0_6.index t (1 : Fin 2) = 0 :=
  (by decide +kernel : ∀ t : Fin grid0.N, _)

theorem t_lt (t : Fin cfg0.N) : t.val < 64 := lt_of_lt_of_eq t.isLt N_0

/-- Input window 0's block at step `t` is the step's channels of its array. -/
theorem iblk0_eq (c : Dev nD) (t : Fin cfg0.N) : iblk m c 0 t = strip (m ((c : Thread nD τ).loc main_arg0)) t.val := by
  funext j
  obtain ⟨e0, e1⟩ := index0 t
  have ht := t_lt t
  have h1 : (j 1).val < 256 := (j 1).isLt
  show V m c main_arg0 (((cfg0.win 0).blk t).view.emb j) = _
  rw [V_main_arg0]
  refine congrArg (m ((c : Thread nD τ).loc main_arg0)) (funext fun a => Fin.ext ?_)
  match a with
  | ⟨0, _⟩ => show win0_0.index t (0 : Fin 2) * 1536 + 1 * (j 0).val = (j 0).val; omega
  | ⟨1, _⟩ => show win0_0.index t (1 : Fin 2) * 256 + 1 * (j 1).val = (256 * t.val + (j 1).val) % 16384; omega

/-- Input window 1's block at step `t` is the step's channels of its array. -/
theorem iblk1_eq (c : Dev nD) (t : Fin cfg0.N) : iblk m c 1 t = strip (m ((c : Thread nD τ).loc main_arg1)) t.val := by
  funext j
  obtain ⟨e0, e1⟩ := index1 t
  have ht := t_lt t
  have h1 : (j 1).val < 256 := (j 1).isLt
  show V m c main_arg1 (((cfg0.win 1).blk t).view.emb j) = _
  rw [V_main_arg1]
  refine congrArg (m ((c : Thread nD τ).loc main_arg1)) (funext fun a => Fin.ext ?_)
  match a with
  | ⟨0, _⟩ => show win0_1.index t (0 : Fin 2) * 1536 + 1 * (j 0).val = (j 0).val; omega
  | ⟨1, _⟩ => show win0_1.index t (1 : Fin 2) * 256 + 1 * (j 1).val = (256 * t.val + (j 1).val) % 16384; omega

theorem ptF_eq (c : Dev nD) (t : Fin cfg0.N) :
    ptF m c t = sF (m ((c : Thread nD τ).loc main_arg0)) (m ((c : Thread nD τ).loc main_arg1)) t.val := by
  unfold ptF sF; rw [iblk0_eq, iblk1_eq]

theorem emb2_0 (t : Fin cfg0.N) (j : S1x256.Idx) : (((cfg0.win 2).blk t).view.emb j (0 : Fin 2)).val = win0_2.index t (0 : Fin 2) * 1 + 1 * (j 0).val := rfl
theorem emb2_1 (t : Fin cfg0.N) (j : S1x256.Idx) : (((cfg0.win 2).blk t).view.emb j (1 : Fin 2)).val = win0_2.index t (1 : Fin 2) * 256 + 1 * (j 1).val := rfl

theorem emb3_0 (t : Fin cfg0.N) (j : S1536x256.Idx) : (((cfg0.win 3).blk t).view.emb j (0 : Fin 2)).val = win0_3.index t (0 : Fin 2) * 1536 + 1 * (j 0).val := rfl
theorem emb3_1 (t : Fin cfg0.N) (j : S1536x256.Idx) : (((cfg0.win 3).blk t).view.emb j (1 : Fin 2)).val = win0_3.index t (1 : Fin 2) * 256 + 1 * (j 1).val := rfl

theorem emb4_0 (t : Fin cfg0.N) (j : S1536x128.Idx) : (((cfg0.win 4).blk t).view.emb j (0 : Fin 2)).val = win0_4.index t (0 : Fin 2) * 1536 + 1 * (j 0).val := rfl
theorem emb4_1 (t : Fin cfg0.N) (j : S1536x128.Idx) : (((cfg0.win 4).blk t).view.emb j (1 : Fin 2)).val = win0_4.index t (1 : Fin 2) * 128 + 1 * (j 1).val := rfl

theorem emb5_0 (t : Fin cfg0.N) (j : S256x1536.Idx) : (((cfg0.win 5).blk t).view.emb j (0 : Fin 2)).val = win0_5.index t (0 : Fin 2) * 256 + 1 * (j 0).val := rfl
theorem emb5_1 (t : Fin cfg0.N) (j : S256x1536.Idx) : (((cfg0.win 5).blk t).view.emb j (1 : Fin 2)).val = win0_5.index t (1 : Fin 2) * 1536 + 1 * (j 1).val := rfl

theorem emb6_0 (t : Fin cfg0.N) (j : S256x48.Idx) : (((cfg0.win 6).blk t).view.emb j (0 : Fin 2)).val = win0_6.index t (0 : Fin 2) * 256 + 1 * (j 0).val := rfl
theorem emb6_1 (t : Fin cfg0.N) (j : S256x48.Idx) : (((cfg0.win 6).blk t).view.emb j (1 : Fin 2)).val = win0_6.index t (1 : Fin 2) * 48 + 1 * (j 1).val := rfl

theorem flushed2_eq (c : Dev nD) (t : Fin cfg0.N) :
    (dats m 0 c).flushed 2 t = ((cfg0.win 2).blk t).view.read (Elt F)
      (K2 (m ((c : Thread nD τ).loc main_arg0)) (m ((c : Thread nD τ).loc main_arg1))) := by
  show (cfg0.win 2).cut (grid0.coords t) ((dats m 0 c).after 2 t) = _
  rw [after0_2]
  funext (j : S1x256.Idx)
  obtain ⟨e0, e1⟩ := index2 t
  have ht := t_lt t
  have h0 : (j 0).val < 1 := (j 0).isLt
  have h1 : (j 1).val < 256 := (j 1).isLt
  have E0 := emb2_0 t j
  have E1 := emb2_1 t j
  show sumOut (ptF m c t) j = K2 _ _ (((cfg0.win 2).blk t).view.emb j)
  unfold K2
  rw [ptF_eq, show (((cfg0.win 2).blk t).view.emb j (1 : Fin 2)).val / 256 = t.val by omega]
  refine congrArg _ (funext fun a => Fin.ext ?_)
  match a with
  | ⟨0, _⟩ => show (j 0).val = 0; omega
  | ⟨1, _⟩ => show (j 1).val = (((cfg0.win 2).blk t).view.emb j (1 : Fin 2)).val % 256; omega
theorem flushed3_eq (c : Dev nD) (t : Fin cfg0.N) :
    (dats m 0 c).flushed 3 t = ((cfg0.win 3).blk t).view.read (Elt F)
      (K3 (m ((c : Thread nD τ).loc main_arg0)) (m ((c : Thread nD τ).loc main_arg1))) := by
  show (cfg0.win 3).cut (grid0.coords t) ((dats m 0 c).after 3 t) = _
  rw [after0_3]
  funext (j : S1536x256.Idx)
  obtain ⟨e0, e1⟩ := index3 t
  have ht := t_lt t
  have h0 : (j 0).val < 1536 := (j 0).isLt
  have h1 : (j 1).val < 256 := (j 1).isLt
  have E0 := emb3_0 t j
  have E1 := emb3_1 t j
  show rcOut (ptF m c t) j = K3 _ _ (((cfg0.win 3).blk t).view.emb j)
  unfold K3
  rw [ptF_eq, show (((cfg0.win 3).blk t).view.emb j (1 : Fin 2)).val / 256 = t.val by omega]
  refine congrArg _ (funext fun a => Fin.ext ?_)
  match a with
  | ⟨0, _⟩ => show (j 0).val = (((cfg0.win 3).blk t).view.emb j (0 : Fin 2)).val; omega
  | ⟨1, _⟩ => show (j 1).val = (((cfg0.win 3).blk t).view.emb j (1 : Fin 2)).val % 256; omega
theorem flushed4_eq (c : Dev nD) (t : Fin cfg0.N) :
    (dats m 0 c).flushed 4 t = ((cfg0.win 4).blk t).view.read (Elt F)
      (K4 (m ((c : Thread nD τ).loc main_arg0)) (m ((c : Thread nD τ).loc main_arg1))) := by
  show (cfg0.win 4).cut (grid0.coords t) ((dats m 0 c).after 4 t) = _
  rw [after0_4]
  funext (j : S1536x128.Idx)
  obtain ⟨e0, e1⟩ := index4 t
  have ht := t_lt t
  have h0 : (j 0).val < 1536 := (j 0).isLt
  have h1 : (j 1).val < 128 := (j 1).isLt
  have E0 := emb4_0 t j
  have E1 := emb4_1 t j
  show k0_pay314 (rsGroup m c (t.val / 16)) j = K4 _ _ (((cfg0.win 4).blk t).view.emb j)
  unfold K4
  have hj : k0_pay314 (rsGroup m c (t.val / 16)) j = (rsGroup m c (t.val / 16) (ix2 (j 1) (j 0))).setWidth 8 := by
    show (transpose S1536x128 [1, 0] (rsGroup m c (t.val / 16)) transposes_S128x1536_p1_0_S1536x128 j).setWidth 8 = _
    rw [transpose_apply [1, 0] (rsGroup m c (t.val / 16)) transposes_S128x1536_p1_0_S1536x128 j (ix2 (j 1) (j 0))
      (fun b => by match b with | ⟨0, _⟩ => rfl | ⟨1, _⟩ => rfl)]
  rw [hj]
  refine congrArg (BitVec.setWidth 8) ?_
  show rsWord (ptF m c (pt (16 * (t.val / 16) + (j 1).val / 8))) ((j 1).val % 8) (j 0).val = _
  rw [ptF_eq]
  have hp : (pt (16 * (t.val / 16) + (j 1).val / 8)).val = (16 * (t.val / 16) + (j 1).val / 8) % 64 := rfl
  rw [show (((cfg0.win 4).blk t).view.emb j (1 : Fin 2)).val / 8 = (pt (16 * (t.val / 16) + (j 1).val / 8)).val by omega,
    show (((cfg0.win 4).blk t).view.emb j (1 : Fin 2)).val % 8 = (j 1).val % 8 by omega,
    show (((cfg0.win 4).blk t).view.emb j (0 : Fin 2)).val = (j 0).val by omega]
theorem flushed5_eq (c : Dev nD) (t : Fin cfg0.N) :
    (dats m 0 c).flushed 5 t = ((cfg0.win 5).blk t).view.read (Elt F)
      (K5 (m ((c : Thread nD τ).loc main_arg0)) (m ((c : Thread nD τ).loc main_arg1))) := by
  show (cfg0.win 5).cut (grid0.coords t) ((dats m 0 c).after 5 t) = _
  rw [after0_5]
  funext (j : S256x1536.Idx)
  obtain ⟨e0, e1⟩ := index5 t
  have ht := t_lt t
  have h0 : (j 0).val < 256 := (j 0).isLt
  have h1 : (j 1).val < 1536 := (j 1).isLt
  have E0 := emb5_0 t j
  have E1 := emb5_1 t j
  show ccOut (ptF m c t) j = K5 _ _ (((cfg0.win 5).blk t).view.emb j)
  unfold K5
  rw [ptF_eq, show (((cfg0.win 5).blk t).view.emb j (0 : Fin 2)).val / 256 = t.val by omega]
  refine congrArg _ (funext fun a => Fin.ext ?_)
  match a with
  | ⟨0, _⟩ => show (j 0).val = (((cfg0.win 5).blk t).view.emb j (0 : Fin 2)).val % 256; omega
  | ⟨1, _⟩ => show (j 1).val = (((cfg0.win 5).blk t).view.emb j (1 : Fin 2)).val; omega
theorem flushed6_eq (c : Dev nD) (t : Fin cfg0.N) :
    (dats m 0 c).flushed 6 t = ((cfg0.win 6).blk t).view.read (Elt F)
      (K6 (m ((c : Thread nD τ).loc main_arg0)) (m ((c : Thread nD τ).loc main_arg1))) := by
  show (cfg0.win 6).cut (grid0.coords t) ((dats m 0 c).after 6 t) = _
  rw [after0_6]
  funext (j : S256x48.Idx)
  obtain ⟨e0, e1⟩ := index6 t
  have ht := t_lt t
  have h0 : (j 0).val < 256 := (j 0).isLt
  have h1 : (j 1).val < 48 := (j 1).isLt
  have E0 := emb6_0 t j
  have E1 := emb6_1 t j
  show k0_pay313 (csAll (ptF m c t)) j = K6 _ _ (((cfg0.win 6).blk t).view.emb j)
  unfold K6
  have hj : k0_pay313 (csAll (ptF m c t)) j = (csAll (ptF m c t) (ix2 (j 1) (j 0))).setWidth 8 := by
    show (transpose S256x48 [1, 0] (csAll (ptF m c t)) transposes_S48x256_p1_0_S256x48 j).setWidth 8 = _
    rw [transpose_apply [1, 0] (csAll (ptF m c t)) transposes_S48x256_p1_0_S256x48 j (ix2 (j 1) (j 0))
      (fun b => by match b with | ⟨0, _⟩ => rfl | ⟨1, _⟩ => rfl)]
  rw [hj, ptF_eq, show (((cfg0.win 6).blk t).view.emb j (0 : Fin 2)).val / 256 = t.val by omega]
  refine congrArg (BitVec.setWidth 8) (congrArg _ (funext fun a => Fin.ext ?_))
  match a with
  | ⟨0, _⟩ => show (j 1).val = (((cfg0.win 6).blk t).view.emb j (1 : Fin 2)).val; omega
  | ⟨1, _⟩ => show (j 0).val = (((cfg0.win 6).blk t).view.emb j (0 : Fin 2)).val % 256; omega
theorem covered2 (i : S1x16384.Idx) :
    ∃ t : Fin cfg0.N, (cfg0.win 2).flush t = true ∧ i ∈ ((cfg0.win 2).blk t).view.set := by
  have h0 : (i 0).val < 1 := (i 0).isLt
  have h1 : (i 1).val < 16384 := (i 1).isLt
  let t : Fin cfg0.N := ⟨(i 1).val / 256, lt_of_lt_of_eq (show _ < 64 by omega) N_0.symm⟩
  let j : S1x256.Idx := ix2 ⟨0, by omega⟩ ⟨(i 1).val % 256, by omega⟩
  obtain ⟨e0, e1⟩ := index2 t
  have ht : t.val = (i 1).val / 256 := rfl
  have hj0 : (j 0).val = 0 := rfl
  have hj1 : (j 1).val = (i 1).val % 256 := rfl
  have E0 := emb2_0 t j
  have E1 := emb2_1 t j
  refine ⟨t, flush0_2 _, ?_⟩
  have h := ((cfg0.win 2).blk t).view.emb_mem_set j
  have he : ((cfg0.win 2).blk t).view.emb j = i := by
    funext a; apply Fin.ext
    match a with
    | ⟨0, _⟩ => show (((cfg0.win 2).blk t).view.emb j (0 : Fin 2)).val = (i (0 : Fin 2)).val; omega
    | ⟨1, _⟩ => show (((cfg0.win 2).blk t).view.emb j (1 : Fin 2)).val = (i (1 : Fin 2)).val; omega
  rwa [he] at h

/-- Result array 0 after the run. -/
theorem final2 (c : Dev nD) : (dats m 0 c).arrAt 2 cfg0.N
    = K2 (m ((c : Thread nD τ).loc main_arg0)) (m ((c : Thread nD τ).loc main_arg1)) :=
  (dats m 0 c).arrAt_eq_of_cover 2 _ (fun t _ => flushed2_eq m c t) covered2

theorem covered3 (i : S1536x16384.Idx) :
    ∃ t : Fin cfg0.N, (cfg0.win 3).flush t = true ∧ i ∈ ((cfg0.win 3).blk t).view.set := by
  have h0 : (i 0).val < 1536 := (i 0).isLt
  have h1 : (i 1).val < 16384 := (i 1).isLt
  let t : Fin cfg0.N := ⟨(i 1).val / 256, lt_of_lt_of_eq (show _ < 64 by omega) N_0.symm⟩
  let j : S1536x256.Idx := ix2 ⟨(i 0).val, by omega⟩ ⟨(i 1).val % 256, by omega⟩
  obtain ⟨e0, e1⟩ := index3 t
  have ht : t.val = (i 1).val / 256 := rfl
  have hj0 : (j 0).val = (i 0).val := rfl
  have hj1 : (j 1).val = (i 1).val % 256 := rfl
  have E0 := emb3_0 t j
  have E1 := emb3_1 t j
  refine ⟨t, flush0_3 _, ?_⟩
  have h := ((cfg0.win 3).blk t).view.emb_mem_set j
  have he : ((cfg0.win 3).blk t).view.emb j = i := by
    funext a; apply Fin.ext
    match a with
    | ⟨0, _⟩ => show (((cfg0.win 3).blk t).view.emb j (0 : Fin 2)).val = (i (0 : Fin 2)).val; omega
    | ⟨1, _⟩ => show (((cfg0.win 3).blk t).view.emb j (1 : Fin 2)).val = (i (1 : Fin 2)).val; omega
  rwa [he] at h

/-- Result array 1 after the run. -/
theorem final3 (c : Dev nD) : (dats m 0 c).arrAt 3 cfg0.N
    = K3 (m ((c : Thread nD τ).loc main_arg0)) (m ((c : Thread nD τ).loc main_arg1)) :=
  (dats m 0 c).arrAt_eq_of_cover 3 _ (fun t _ => flushed3_eq m c t) covered3

theorem covered4 (i : S1536x512.Idx) :
    ∃ t : Fin cfg0.N, (cfg0.win 4).flush t = true ∧ i ∈ ((cfg0.win 4).blk t).view.set := by
  have h0 : (i 0).val < 1536 := (i 0).isLt
  have h1 : (i 1).val < 512 := (i 1).isLt
  let t : Fin cfg0.N := ⟨16 * ((i 1).val / 128) + 15, lt_of_lt_of_eq (show _ < 64 by omega) N_0.symm⟩
  let j : S1536x128.Idx := ix2 ⟨(i 0).val, by omega⟩ ⟨(i 1).val % 128, by omega⟩
  obtain ⟨e0, e1⟩ := index4 t
  have ht : t.val = 16 * ((i 1).val / 128) + 15 := rfl
  have hj0 : (j 0).val = (i 0).val := rfl
  have hj1 : (j 1).val = (i 1).val % 128 := rfl
  have E0 := emb4_0 t j
  have E1 := emb4_1 t j
  refine ⟨t, (flush0_4 _).mpr (by show (16 * ((i 1).val / 128) + 15) % 16 = 15; omega), ?_⟩
  have h := ((cfg0.win 4).blk t).view.emb_mem_set j
  have he : ((cfg0.win 4).blk t).view.emb j = i := by
    funext a; apply Fin.ext
    match a with
    | ⟨0, _⟩ => show (((cfg0.win 4).blk t).view.emb j (0 : Fin 2)).val = (i (0 : Fin 2)).val; omega
    | ⟨1, _⟩ => show (((cfg0.win 4).blk t).view.emb j (1 : Fin 2)).val = (i (1 : Fin 2)).val; omega
  rwa [he] at h

/-- Result array 2 after the run. -/
theorem final4 (c : Dev nD) : (dats m 0 c).arrAt 4 cfg0.N
    = K4 (m ((c : Thread nD τ).loc main_arg0)) (m ((c : Thread nD τ).loc main_arg1)) :=
  (dats m 0 c).arrAt_eq_of_cover 4 _ (fun t _ => flushed4_eq m c t) covered4

theorem covered5 (i : S16384x1536.Idx) :
    ∃ t : Fin cfg0.N, (cfg0.win 5).flush t = true ∧ i ∈ ((cfg0.win 5).blk t).view.set := by
  have h0 : (i 0).val < 16384 := (i 0).isLt
  have h1 : (i 1).val < 1536 := (i 1).isLt
  let t : Fin cfg0.N := ⟨(i 0).val / 256, lt_of_lt_of_eq (show _ < 64 by omega) N_0.symm⟩
  let j : S256x1536.Idx := ix2 ⟨(i 0).val % 256, by omega⟩ ⟨(i 1).val, by omega⟩
  obtain ⟨e0, e1⟩ := index5 t
  have ht : t.val = (i 0).val / 256 := rfl
  have hj0 : (j 0).val = (i 0).val % 256 := rfl
  have hj1 : (j 1).val = (i 1).val := rfl
  have E0 := emb5_0 t j
  have E1 := emb5_1 t j
  refine ⟨t, flush0_5 _, ?_⟩
  have h := ((cfg0.win 5).blk t).view.emb_mem_set j
  have he : ((cfg0.win 5).blk t).view.emb j = i := by
    funext a; apply Fin.ext
    match a with
    | ⟨0, _⟩ => show (((cfg0.win 5).blk t).view.emb j (0 : Fin 2)).val = (i (0 : Fin 2)).val; omega
    | ⟨1, _⟩ => show (((cfg0.win 5).blk t).view.emb j (1 : Fin 2)).val = (i (1 : Fin 2)).val; omega
  rwa [he] at h

/-- Result array 3 after the run. -/
theorem final5 (c : Dev nD) : (dats m 0 c).arrAt 5 cfg0.N
    = K5 (m ((c : Thread nD τ).loc main_arg0)) (m ((c : Thread nD τ).loc main_arg1)) :=
  (dats m 0 c).arrAt_eq_of_cover 5 _ (fun t _ => flushed5_eq m c t) covered5

theorem covered6 (i : S16384x48.Idx) :
    ∃ t : Fin cfg0.N, (cfg0.win 6).flush t = true ∧ i ∈ ((cfg0.win 6).blk t).view.set := by
  have h0 : (i 0).val < 16384 := (i 0).isLt
  have h1 : (i 1).val < 48 := (i 1).isLt
  let t : Fin cfg0.N := ⟨(i 0).val / 256, lt_of_lt_of_eq (show _ < 64 by omega) N_0.symm⟩
  let j : S256x48.Idx := ix2 ⟨(i 0).val % 256, by omega⟩ ⟨(i 1).val, by omega⟩
  obtain ⟨e0, e1⟩ := index6 t
  have ht : t.val = (i 0).val / 256 := rfl
  have hj0 : (j 0).val = (i 0).val % 256 := rfl
  have hj1 : (j 1).val = (i 1).val := rfl
  have E0 := emb6_0 t j
  have E1 := emb6_1 t j
  refine ⟨t, flush0_6 _, ?_⟩
  have h := ((cfg0.win 6).blk t).view.emb_mem_set j
  have he : ((cfg0.win 6).blk t).view.emb j = i := by
    funext a; apply Fin.ext
    match a with
    | ⟨0, _⟩ => show (((cfg0.win 6).blk t).view.emb j (0 : Fin 2)).val = (i (0 : Fin 2)).val; omega
    | ⟨1, _⟩ => show (((cfg0.win 6).blk t).view.emb j (1 : Fin 2)).val = (i (1 : Fin 2)).val; omega
  rwa [he] at h

/-- Result array 4 after the run. -/
theorem final6 (c : Dev nD) : (dats m 0 c).arrAt 6 cfg0.N
    = K6 (m ((c : Thread nD τ).loc main_arg0)) (m ((c : Thread nD τ).loc main_arg1)) :=
  (dats m 0 c).arrAt_eq_of_cover 6 _ (fun t _ => flushed6_eq m c t) covered6

/-- The run: each result array at its function of the arguments, the arguments unchanged. -/
theorem run : θ_run defs (onTc (τ := τ) (main (F := F))) ⟨m, fun _ => 0, ρ⟩ fun r => ∀ c : Dev nD,
      r.2.mem ((c : Thread nD τ).loc main_v0_0) = K2 (m ((c : Thread nD τ).loc main_arg0)) (m ((c : Thread nD τ).loc main_arg1))
      ∧ r.2.mem ((c : Thread nD τ).loc main_v0_1) = K3 (m ((c : Thread nD τ).loc main_arg0)) (m ((c : Thread nD τ).loc main_arg1))
      ∧ r.2.mem ((c : Thread nD τ).loc main_v0_2) = K4 (m ((c : Thread nD τ).loc main_arg0)) (m ((c : Thread nD τ).loc main_arg1))
      ∧ r.2.mem ((c : Thread nD τ).loc main_v0_3) = K5 (m ((c : Thread nD τ).loc main_arg0)) (m ((c : Thread nD τ).loc main_arg1))
      ∧ r.2.mem ((c : Thread nD τ).loc main_v0_4) = K6 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
      obtain ⟨h2, h3, h4, h5, h6, k0, k1⟩ := h c
      exact ⟨h2.trans (final2 m c), h3.trans (final3 m c), h4.trans (final4 m c), h5.trans (final5 m c),
        h6.trans (final6 m c), k0, k1⟩)
    (run_blocks m ρ)

end Cert.KernelIdeal.Run

end
-- ==== Proof.Hot.lean ====
/- The one-hot matrices of the kernel, on extended reals, and the product with each: it picks the entry of the block
   that a channel or a token lies in. -/
module

public import proofs.«01_k».proof.Proof.Tile
public import Idealize.ShloMosaic.PureOps.Ideal.Laws
public import Idealize.ShloMosaic.Lib.ValueIdxCore
public import Idealize.ShloMosaic.Lib.ValueLayout

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx

/-- The words of the one-hot matrix over 256 channels. -/
def hotRW : IVec S8x256 32 :=
  let v0 : IVec S8x256 32 := iota .tc S8x256 32 [1] iota_S8x256_d1_w32
  let v2 := divsi v0 (broadcast S8x256 32#32)
  let v9 := subi (extui 32 (cmpi .sgt v0 (broadcast S8x256 0#32)) natLt_1_32)
    (extui 32 (cmpi .slt v0 (broadcast S8x256 0#32)) natLt_1_32)
  let v14 := Scalar.subi (Scalar.extui (Scalar.cmpi .sgt 32#32 0#32)) (Scalar.extui (Scalar.cmpi .slt 32#32 0#32))
  let v21 := andi (cmpi .ne v9 (broadcast S8x256 v14))
    (cmpi .ne (remsi v0 (broadcast S8x256 32#32)) (broadcast S8x256 0#32))
  extui 32 (cmpi .eq (select v21 (subi v2 (broadcast S8x256 1#32)) v2) (iota .tc S8x256 32 [0] iota_S8x256_d0_w32)) natLt_1_32

/-- The words of the one-hot matrix over 128 tokens. -/
def hotCW : IVec S4x128 32 :=
  let v0 : IVec S4x128 32 := iota .tc S4x128 32 [1] iota_S4x128_d1_w32
  let v2 := divsi v0 (broadcast S4x128 32#32)
  let v9 := subi (extui 32 (cmpi .sgt v0 (broadcast S4x128 0#32)) natLt_1_32)
    (extui 32 (cmpi .slt v0 (broadcast S4x128 0#32)) natLt_1_32)
  let v14 := Scalar.subi (Scalar.extui (Scalar.cmpi .sgt 32#32 0#32)) (Scalar.extui (Scalar.cmpi .slt 32#32 0#32))
  let v21 := andi (cmpi .ne v9 (broadcast S4x128 v14))
    (cmpi .ne (remsi v0 (broadcast S4x128 32#32)) (broadcast S4x128 0#32))
  extui 32 (cmpi .eq (select v21 (subi v2 (broadcast S4x128 1#32)) v2) (iota .tc S4x128 32 [0] iota_S4x128_d0_w32)) natLt_1_32

theorem hotRW_at : ∀ (k : Fin 8) (c : Fin 256), hotRW (ix2 k c) = if c.val / 32 = k.val then 1#32 else 0#32 := by
  decide +kernel

theorem hotCW_at : ∀ (k : Fin 4) (c : Fin 128), hotCW (ix2 k c) = if c.val / 32 = k.val then 1#32 else 0#32 := by
  decide +kernel

theorem word_real (p : Prop) [Decidable p] :
    ((((if p then 1#32 else 0#32 : BitVec 32).toInt : ℝ)) : EReal) = if p then 1 else 0 := by
  split <;> simp

theorem hotR_at (k : Fin 8) (c : Fin 256) : hotR (F := Ideal) (ix2 k c) = if c.val / 32 = k.val then (1 : EReal) else 0 := by
  have e : hotR (F := Ideal) (ix2 k c) = (((hotRW (ix2 k c)).toInt : ℝ) : EReal) := rfl
  rw [e, hotRW_at, word_real]

theorem hotC_at (k : Fin 4) (c : Fin 128) : hotC (F := Ideal) (ix2 k c) = if c.val / 32 = k.val then (1 : EReal) else 0 := by
  have e : hotC (F := Ideal) (ix2 k c) = (((hotCW (ix2 k c)).toInt : ℝ) : EReal) := rfl
  rw [e, hotCW_at, word_real]

/-- A product with a one-hot row is the picked entry. -/
theorem sum_hot (n : ℕ) (g : Fin n → EReal) (q : ℕ) (hq : q < n) :
    ∑ k : Fin n, g k * (if q = k.val then (1 : EReal) else 0) = g ⟨q, hq⟩ := by
  rw [Finset.sum_eq_single (⟨q, hq⟩ : Fin n)]
  · rw [if_pos rfl, mul_one]
  · intro k _ hk
    rw [if_neg (fun h => hk (Fin.ext h.symm)), mul_zero]
  · intro h; exact absurd (Finset.mem_univ _) h

theorem dotR_at (p : FVec Ideal S8x128 .bf16) (r : Fin 128) (c : Fin 256) :
    (matmul dot_S8x128_S8x256_S128x256_0_0_1_1_n_n none p (hotR (F := Ideal)) (constant S128x256 .f32 0x00000000#32) (ix2 r c) : EReal)
      = p (ix2 ⟨c.val / 32, by omega⟩ r) := by
  rw [← sum_hot 8 (fun k => p (ix2 k r)) (c.val / 32) (by omega)]
  refine (Ideal.matmul_constant_zero_apply (φ₁ := .bf16) (φ₂ := .bf16) dot_S8x128_S8x256_S128x256_0_0_1_1_n_n none p (hotR (F := Ideal)) (ix2 r c)).trans ?_
  rw [← Equiv.sum_comp (contrEquiv1 dot_S8x128_S8x256_S128x256_0_0_1_1_n_n 8 rfl rfl).symm]
  refine Finset.sum_congr rfl fun k _ => ?_
  have hk := contrEquiv1_symm_val dot_S8x128_S8x256_S128x256_0_0_1_1_n_n 8 rfl rfl k
  have el : dot_S8x128_S8x256_S128x256_0_0_1_1_n_n.lhsIdx (ix2 r c)
      ((contrEquiv1 dot_S8x128_S8x256_S128x256_0_0_1_1_n_n 8 rfl rfl).symm k) = ix2 k r := by
    funext a; apply Fin.ext
    match a with
    | ⟨0, _⟩ => exact hk
    | ⟨1, _⟩ => rfl
  have er : dot_S8x128_S8x256_S128x256_0_0_1_1_n_n.rhsIdx (ix2 r c)
      ((contrEquiv1 dot_S8x128_S8x256_S128x256_0_0_1_1_n_n 8 rfl rfl).symm k) = ix2 k c := by
    funext a; apply Fin.ext
    match a with
    | ⟨0, _⟩ => exact hk
    | ⟨1, _⟩ => rfl
  rw [el, er, hotR_at]

theorem dotC_at (p : FVec Ideal S4x256 .bf16) (c : Fin 256) (r : Fin 128) :
    (matmul dot_S4x256_S4x128_S256x128_0_0_1_1_n_n none p (hotC (F := Ideal)) (constant S256x128 .f32 0x00000000#32) (ix2 c r) : EReal)
      = p (ix2 ⟨r.val / 32, by omega⟩ c) := by
  rw [← sum_hot 4 (fun k => p (ix2 k c)) (r.val / 32) (by omega)]
  refine (Ideal.matmul_constant_zero_apply (φ₁ := .bf16) (φ₂ := .bf16) dot_S4x256_S4x128_S256x128_0_0_1_1_n_n none p (hotC (F := Ideal)) (ix2 c r)).trans ?_
  rw [← Equiv.sum_comp (contrEquiv1 dot_S4x256_S4x128_S256x128_0_0_1_1_n_n 4 rfl rfl).symm]
  refine Finset.sum_congr rfl fun k _ => ?_
  have hk := contrEquiv1_symm_val dot_S4x256_S4x128_S256x128_0_0_1_1_n_n 4 rfl rfl k
  have el : dot_S4x256_S4x128_S256x128_0_0_1_1_n_n.lhsIdx (ix2 c r)
      ((contrEquiv1 dot_S4x256_S4x128_S256x128_0_0_1_1_n_n 4 rfl rfl).symm k) = ix2 k c := by
    funext a; apply Fin.ext
    match a with
    | ⟨0, _⟩ => exact hk
    | ⟨1, _⟩ => rfl
  have er : dot_S4x256_S4x128_S256x128_0_0_1_1_n_n.rhsIdx (ix2 c r)
      ((contrEquiv1 dot_S4x256_S4x128_S256x128_0_0_1_1_n_n 4 rfl rfl).symm k) = ix2 k r := by
    funext a; apply Fin.ext
    match a with
    | ⟨0, _⟩ => exact hk
    | ⟨1, _⟩ => rfl
  rw [el, er, hotC_at]

end Cert.KernelIdeal.Run

end
-- ==== Proof.Scale.lean ====
/- The scale of one block, on extended reals: the kernel's search for the exponent field and its
   inverse scale against the reference's logarithm and power of two. -/
module

public import Idealize.ShloMosaic.PureOps.Ideal
public import Idealize.ShloMosaic.PureOps.Ideal.Laws
public import Idealize.ShloMosaic.Lib.ValueIdxCore

@[expose] public section

noncomputable section

namespace Cert.Quant

open Idealize.ShloMosaic Idealize.ShloMosaic.ValueIdx

/-- One step of the search for the exponent field of `p`. -/
def stepS (p : EReal) (k b : BitVec 32) : BitVec 32 :=
  Scalar.select (Ideal.cmp .oge p (Ideal.ofBits .f32 (IntOp.shli .vector (b + k) 23#32))) (b + k) b

/-- The exponent field of `p`, found bit by bit. -/
def expoS (p : EReal) : BitVec 32 :=
  stepS p 1#32 (stepS p 2#32 (stepS p 4#32 (stepS p 8#32 (stepS p 16#32 (stepS p 32#32
    (stepS p 64#32 (stepS p 128#32 0#32)))))))

/-- The scale word as the kernel makes it. -/
def scaleS (p : EReal) : BitVec 32 :=
  Scalar.select (IntOp.cmpi .eq (expoS p) 0#32) 127#32 (expoS p + 1#32)

/-- The inverse scale as the kernel makes it. -/
def invS (p : EReal) : EReal := Ideal.ofBits .f32 (IntOp.shli .vector (254#32 - scaleS p) 23#32)

/-- The exponent as the reference makes it. -/
def refE (p : EReal) : EReal :=
  Scalar.select (Ideal.cmp .olt p (Ideal.ofBits .f32 0x00800000#32)) (Ideal.ofBits .f32 0x00000000#32)
    (Ideal.liftRound Int.floor (Ideal.div (Ideal.log p) (Ideal.log (Ideal.ofBits .f32 0x40000000#32)))
      + Ideal.ofBits .f32 0x3F800000#32)

/-- The inverse scale as the reference makes it. -/
def refInv (p : EReal) : EReal := Ideal.exp2 (Ideal.ofBits .f32 0x00000000#32 - refE p)

/-- The scale word as the reference makes it. -/
def refW (p : EReal) : BitVec 32 := Ideal.fptosi 32 (refE p) + 127#32

/-- The float whose exponent field is `n`, all other bits zero. -/
def pw (n : ℕ) : EReal := Ideal.ofBits .f32 (IntOp.shli .vector (BitVec.ofNat 32 n) 23#32)

theorem field (n : Fin 256) :
    ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by
  revert n; decide +kernel

/-- A positive float read by its fields. -/
theorem ieee_of (w : BitVec 32) (ex fr : ℕ) (h1 : (w.extractLsb' 23 8).toNat = ex) (h2 : (w.extractLsb' 0 23).toNat = fr)
    (h3 : (w.extractLsb' 31 1 == 1#1) = false) :
    Ideal.ofBits .f32 w = if ex = 255 then (if fr = 0 then (⊤ : EReal) else ⊥)
      else if ex = 0 then ((1 * fr * (2 : ℝ) ^ (-149 : ℤ) : ℝ) : EReal)
      else ((1 * (2 ^ 23 + fr : ℕ) * (2 : ℝ) ^ ((ex : ℤ) - 127 - 23) : ℝ) : EReal) := by
  have e : Ideal.ofBits .f32 w = (if (w.extractLsb' 23 8).toNat = 2 ^ 8 - 1 then
        (if (w.extractLsb' 0 23).toNat = 0 then (if (w.extractLsb' 31 1 == 1#1) = true then (⊥ : EReal) else ⊤) else ⊥)
      else if (w.extractLsb' 23 8).toNat = 0 then
        (((if (w.extractLsb' 31 1 == 1#1) = true then (-1 : ℝ) else 1) * (w.extractLsb' 0 23).toNat
          * (2 : ℝ) ^ (1 - (2 ^ (8 - 1) - 1) - (23 : ℕ) : ℤ) : ℝ) : EReal)
      else (((if (w.extractLsb' 31 1 == 1#1) = true then (-1 : ℝ) else 1) * (2 ^ 23 + (w.extractLsb' 0 23).toNat : ℕ)
          * (2 : ℝ) ^ (((w.extractLsb' 23 8).toNat : ℤ) - (2 ^ (8 - 1) - 1) - (23 : ℕ)) : ℝ) : EReal)) := rfl
  rw [e, h1, h2, h3, if_neg Bool.false_ne_true, if_neg Bool.false_ne_true]
  rw [show ((1 : ℤ) - (2 ^ (8 - 1) - 1) - (23 : ℕ)) = -149 by norm_num,
    show ((ex : ℤ) - (2 ^ (8 - 1) - 1) - (23 : ℕ)) = (ex : ℤ) - 127 - 23 by norm_num]
  rfl

theorem pw_eq (n : ℕ) (h1 : 1 ≤ n) (h2 : n ≤ 254) : pw n = (((2 : ℝ) ^ ((n : ℤ) - 127) : ℝ) : EReal) := by
  obtain ⟨e1, e2, e3⟩ := field ⟨n, by omega⟩
  refine (ieee_of _ n 0 e1 e2 e3).trans ?_
  rw [if_neg (by omega), if_neg (by omega)]
  refine EReal.coe_eq_coe_iff.mpr ?_
  have h : (2 : ℝ) ^ ((n : ℤ) - 127) = (2 : ℝ) ^ ((n : ℤ) - 127 - 23) * (2 : ℝ) ^ (23 : ℤ) := by
    rw [← zpow_add₀ two_ne_zero, sub_add_cancel]
  have h23 : (((2 ^ 23 + 0 : ℕ) : ℕ) : ℝ) = (2 : ℝ) ^ (23 : ℤ) := by norm_num
  rw [h, one_mul, h23, mul_comm]

theorem pw_top : pw 255 = ⊤ := by
  obtain ⟨e1, e2, e3⟩ := field ⟨255, by omega⟩
  refine (ieee_of _ 255 0 e1 e2 e3).trans ?_
  rw [if_pos rfl, if_pos rfl]

theorem stepS_eq (p : EReal) (L b k : ℕ) (h : pw (b + k) ≤ p ↔ b + k ≤ L) :
    stepS p (BitVec.ofNat 32 k) (BitVec.ofNat 32 b) = BitVec.ofNat 32 (if b + k ≤ L then b + k else b) := by
  unfold stepS
  have e : BitVec.ofNat 32 b + BitVec.ofNat 32 k = BitVec.ofNat 32 (b + k) := by
    apply BitVec.eq_of_toNat_eq; simp
  rw [e]
  show Scalar.select (BitVec.ofBool (decide (pw (b + k) ≤ p))) _ _ = _
  by_cases hb : b + k ≤ L
  · rw [if_pos hb, decide_eq_true (h.mpr hb)]; rfl
  · rw [if_neg hb, decide_eq_false (fun hh => hb (h.mp hh))]; rfl

/-- The search finds the largest field whose power is at most `p`. -/
theorem expoS_eq (p : EReal) (L : ℕ) (hL : L ≤ 255) (h : ∀ n, 1 ≤ n → n ≤ 255 → (pw n ≤ p ↔ n ≤ L)) :
    expoS p = BitVec.ofNat 32 L := by
  have S : ∀ b k : ℕ, 1 ≤ k → b + k ≤ 255 → stepS p (BitVec.ofNat 32 k) (BitVec.ofNat 32 b)
      = BitVec.ofNat 32 (if b + k ≤ L then b + k else b) :=
    fun b k h1 h2 => stepS_eq p L b k (h _ (by omega) h2)
  unfold expoS
  rw [S 0 128 (by omega) (by omega)]
  generalize hb1 : (if 0 + 128 ≤ L then 0 + 128 else 0) = b1
  have q1 : b1 ≤ 128 ∧ b1 ≤ L ∧ L < b1 + 128 := by split_ifs at hb1 <;> omega
  rw [S b1 64 (by omega) (by omega)]
  generalize hb2 : (if b1 + 64 ≤ L then b1 + 64 else b1) = b2
  have q2 : b2 ≤ 192 ∧ b2 ≤ L ∧ L < b2 + 64 := by split_ifs at hb2 <;> omega
  rw [S b2 32 (by omega) (by omega)]
  generalize hb3 : (if b2 + 32 ≤ L then b2 + 32 else b2) = b3
  have q3 : b3 ≤ 224 ∧ b3 ≤ L ∧ L < b3 + 32 := by split_ifs at hb3 <;> omega
  rw [S b3 16 (by omega) (by omega)]
  generalize hb4 : (if b3 + 16 ≤ L then b3 + 16 else b3) = b4
  have q4 : b4 ≤ 240 ∧ b4 ≤ L ∧ L < b4 + 16 := by split_ifs at hb4 <;> omega
  rw [S b4 8 (by omega) (by omega)]
  generalize hb5 : (if b4 + 8 ≤ L then b4 + 8 else b4) = b5
  have q5 : b5 ≤ 248 ∧ b5 ≤ L ∧ L < b5 + 8 := by split_ifs at hb5 <;> omega
  rw [S b5 4 (by omega) (by omega)]
  generalize hb6 : (if b5 + 4 ≤ L then b5 + 4 else b5) = b6
  have q6 : b6 ≤ 252 ∧ b6 ≤ L ∧ L < b6 + 4 := by split_ifs at hb6 <;> omega
  rw [S b6 2 (by omega) (by omega)]
  generalize hb7 : (if b6 + 2 ≤ L then b6 + 2 else b6) = b7
  have q7 : b7 ≤ 254 ∧ b7 ≤ L ∧ L < b7 + 2 := by split_ifs at hb7 <;> omega
  rw [S b7 1 (by omega) (by omega)]
  congr 1
  split_ifs <;> omega

theorem const_min : Ideal.ofBits .f32 0x00800000#32 = (((2 : ℝ) ^ (-126 : ℤ) : ℝ) : EReal) := by
  have h : Ideal.ofBits .f32 0x00800000#32 = pw 1 := congrArg (Ideal.ofBits .f32) (show _ = IntOp.shli .vector 1#32 23#32 by decide)
  rw [h, pw_eq 1 le_rfl (by omega)]; norm_num

theorem const_one : Ideal.ofBits .f32 0x3F800000#32 = ((1 : ℝ) : EReal) := by
  have h : Ideal.ofBits .f32 0x3F800000#32 = pw 127 := congrArg (Ideal.ofBits .f32) (show _ = IntOp.shli .vector 127#32 23#32 by decide)
  rw [h, pw_eq 127 (by omega) (by omega)]; norm_num

theorem const_two : Ideal.ofBits .f32 0x40000000#32 = ((2 : ℝ) : EReal) := by
  have h : Ideal.ofBits .f32 0x40000000#32 = pw 128 := congrArg (Ideal.ofBits .f32) (show _ = IntOp.shli .vector 128#32 23#32 by decide)
  rw [h, pw_eq 128 (by omega) (by omega)]; norm_num

/-- The kernel's scale word and inverse at a block whose exponent field is `L`. -/
theorem scale_of_zero (p : EReal) (h : expoS p = BitVec.ofNat 32 0) :
    scaleS p = 127#32 ∧ invS p = ((1 : ℝ) : EReal) := by
  have hs : scaleS p = 127#32 := by unfold scaleS; rw [h]; rfl
  refine ⟨hs, ?_⟩
  unfold invS; rw [hs]
  exact const_one

theorem scale_of_pos (p : EReal) (L : ℕ) (h1 : 1 ≤ L) (h2 : L ≤ 252) (h : expoS p = BitVec.ofNat 32 L) :
    scaleS p = BitVec.ofNat 32 (L + 1) ∧ invS p = (((2 : ℝ) ^ (126 - (L : ℤ)) : ℝ) : EReal) := by
  have hs : scaleS p = BitVec.ofNat 32 (L + 1) := by
    unfold scaleS; rw [h]
    have hne : IntOp.cmpi .eq (BitVec.ofNat 32 L) 0#32 = 0#1 := by
      have : BitVec.ofNat 32 L ≠ 0#32 := by
        intro hh
        have := congrArg BitVec.toNat hh
        simp at this; omega
      show BitVec.ofBool (BitVec.ofNat 32 L == 0#32) = 0#1
      rw [beq_eq_false_iff_ne.mpr this]; rfl
    rw [hne, select_zero]
    apply BitVec.eq_of_toNat_eq; simp
  refine ⟨hs, ?_⟩
  unfold invS; rw [hs]
  have e : 254#32 - BitVec.ofNat 32 (L + 1) = BitVec.ofNat 32 (253 - L) := by
    apply BitVec.eq_of_toNat_eq
    rw [BitVec.toNat_sub, BitVec.toNat_ofNat, BitVec.toNat_ofNat, BitVec.toNat_ofNat]; omega
  rw [e]
  refine (pw_eq (253 - L) (by omega) (by omega)).trans ?_
  congr 2; omega

/-- Powers of two below `r`, by the floor of its logarithm. -/
theorem zpow_le_iff (r : ℝ) (hr : 0 < r) (k : ℤ) :
    (2 : ℝ) ^ k ≤ r ↔ k ≤ ⌊Real.log r / Real.log 2⌋ := by
  have h2 : 0 < Real.log 2 := Real.log_pos (by norm_num)
  rw [Int.le_floor, le_div_iff₀ h2, ← Real.log_zpow, Real.log_le_log_iff (by positivity) hr]

/-- The reference's exponent of a tiny block. -/
theorem refE_small (r : ℝ) (h : r < (2 : ℝ) ^ (-126 : ℤ)) : refE (r : EReal) = ((0 : ℝ) : EReal) := by
  unfold refE
  rw [const_min]
  have : Ideal.cmp .olt (r : EReal) (((2 : ℝ) ^ (-126 : ℤ) : ℝ) : EReal) = 1#1 := by
    show BitVec.ofBool (decide _) = _
    rw [decide_eq_true (EReal.coe_lt_coe_iff.mpr h)]; rfl
  rw [this, select_one, Ideal.ofBits_zero_f32]; rfl

/-- The reference's exponent of any other block. -/
theorem refE_large (r : ℝ) (h : (2 : ℝ) ^ (-126 : ℤ) ≤ r) :
    refE (r : EReal) = (((⌊Real.log r / Real.log 2⌋ + 1 : ℤ) : ℝ) : EReal) := by
  have hr : 0 < r := lt_of_lt_of_le (by positivity) h
  have h2 : 0 < Real.log 2 := Real.log_pos (by norm_num)
  unfold refE
  rw [const_min, const_two, const_one]
  have : Ideal.cmp .olt (r : EReal) (((2 : ℝ) ^ (-126 : ℤ) : ℝ) : EReal) = 0#1 := by
    show BitVec.ofBool (decide _) = _
    rw [decide_eq_false (by rw [EReal.coe_lt_coe_iff]; exact not_lt.mpr h)]; rfl
  rw [this, select_zero]
  have l1 : Ideal.log (r : EReal) = ((Real.log r : ℝ) : EReal) := by
    show (if r ≤ 0 then ⊥ else ((Real.log r : ℝ) : EReal)) = _
    rw [if_neg (not_le.mpr hr)]
  have l2 : Ideal.log ((2 : ℝ) : EReal) = ((Real.log 2 : ℝ) : EReal) := by
    show (if (2 : ℝ) ≤ 0 then ⊥ else ((Real.log 2 : ℝ) : EReal)) = _
    rw [if_neg (by norm_num)]
  rw [l1, l2]
  have d : Ideal.div ((Real.log r : ℝ) : EReal) ((Real.log 2 : ℝ) : EReal) = ((Real.log r / Real.log 2 : ℝ) : EReal) := by
    unfold Ideal.div
    rw [if_neg (by rw [← EReal.coe_zero, EReal.coe_eq_coe_iff]; exact h2.ne'), ← EReal.coe_inv, ← EReal.coe_mul]
    rfl
  rw [d]
  show (((⌊Real.log r / Real.log 2⌋ : ℤ) : ℝ) : EReal) + _ = _
  rw [← EReal.coe_add]; push_cast; rfl

/-- Below `2^126` the kernel's scale word and inverse scale are the reference's. -/
theorem scale_eq (r : ℝ) (h0 : 0 ≤ r) (h1 : r < (2 : ℝ) ^ (126 : ℤ)) :
    scaleS (r : EReal) = refW (r : EReal) ∧ invS (r : EReal) = refInv (r : EReal) := by
  by_cases hs : r < (2 : ℝ) ^ (-126 : ℤ)
  · have hE : expoS (r : EReal) = BitVec.ofNat 32 0 := by
      refine expoS_eq _ 0 (by omega) fun n hn1 hn2 => ⟨fun hp => ?_, fun hn => by omega⟩
      exfalso
      rcases Nat.lt_or_ge n 255 with hn | hn
      · rw [pw_eq n hn1 (by omega), EReal.coe_le_coe_iff] at hp
        have : (2 : ℝ) ^ (-126 : ℤ) ≤ (2 : ℝ) ^ ((n : ℤ) - 127) := zpow_le_zpow_right₀ (by norm_num) (by omega)
        linarith
      · rw [show n = 255 by omega, pw_top, top_le_iff] at hp
        exact EReal.coe_ne_top _ hp
    obtain ⟨e1, e2⟩ := scale_of_zero _ hE
    refine ⟨e1.trans ?_, e2.trans ?_⟩
    · unfold refW; rw [refE_small r hs]
      have : Ideal.fptosi 32 ((0 : ℝ) : EReal) = 0#32 := by
        show BitVec.ofInt 32 (max _ (min _ (if (0 : ℝ) ≤ (0 : ℝ) then ⌊(0 : ℝ)⌋ else ⌈(0 : ℝ)⌉))) = _
        rw [Int.floor_zero, Int.ceil_zero, ite_self]; rfl
      rw [this]; rfl
    · unfold refInv; rw [refE_small r hs, Ideal.ofBits_zero_f32, ← EReal.coe_zero, ← EReal.coe_sub]
      show _ = ((Real.rpow 2 (0 - 0) : ℝ) : EReal)
      norm_num
  · have hs' := not_lt.mp hs
    have hr : 0 < r := lt_of_lt_of_le (by positivity) hs'
    have key := zpow_le_iff r hr
    generalize hz : ⌊Real.log r / Real.log 2⌋ = z at key
    have z1 : -126 ≤ z := (key _).mp hs'
    have z2 : z < 126 := by
      by_contra hh
      exact absurd ((key 126).mpr (by omega)) (not_le.mpr h1)
    have hE : expoS (r : EReal) = BitVec.ofNat 32 (z + 127).toNat := by
      refine expoS_eq _ _ (by omega) fun n hn1 hn2 => ?_
      rcases Nat.lt_or_ge n 255 with hn | hn
      · rw [pw_eq n hn1 (by omega), EReal.coe_le_coe_iff, key]; omega
      · rw [show n = 255 by omega, pw_top, top_le_iff]
        exact ⟨fun hp => absurd hp (EReal.coe_ne_top _), fun hp => by omega⟩
    obtain ⟨e1, e2⟩ := scale_of_pos _ _ (by omega) (by omega) hE
    refine ⟨e1.trans ?_, e2.trans ?_⟩
    · unfold refW; rw [refE_large r hs', hz]
      have : Ideal.fptosi 32 (((z + 1 : ℤ) : ℝ) : EReal) = BitVec.ofInt 32 (z + 1) := by
        show BitVec.ofInt 32 (max _ (min _ (if (0 : ℝ) ≤ ((z + 1 : ℤ) : ℝ) then ⌊((z + 1 : ℤ) : ℝ)⌋ else ⌈((z + 1 : ℤ) : ℝ)⌉))) = _
        rw [Int.floor_intCast, Int.ceil_intCast, ite_self]
        congr 1
        norm_num
        omega
      rw [this]
      apply BitVec.eq_of_toInt_eq
      rw [BitVec.toInt_add, BitVec.toInt_ofInt, BitVec.toInt_ofNat', show (127#32).toInt = 127 from rfl]
      rw [← Int.toNat_of_nonneg (show (0 : ℤ) ≤ z + 127 by omega)]
      simp only [Int.bmod]
      omega
    · unfold refInv; rw [refE_large r hs', hz, Ideal.ofBits_zero_f32, ← EReal.coe_zero, ← EReal.coe_sub]
      show _ = ((Real.rpow 2 (0 - ((z + 1 : ℤ) : ℝ)) : ℝ) : EReal)
      congr 1
      rw [show (0 : ℝ) - ((z + 1 : ℤ) : ℝ) = ((126 - (((z + 127).toNat : ℕ) : ℤ) : ℤ) : ℝ) by
        rw [Int.toNat_of_nonneg (by omega)]; push_cast; ring]
      exact (Real.rpow_intCast 2 _).symm

end Cert.Quant

end
-- ==== Proof.Bound.lean ====
/- The derivative on extended reals and how large it can be: finite and at most three times the
   gradient, whatever `x` is. -/
module

public import proofs.«01_k».proof.Proof.Scale
public import Mathlib.Analysis.SpecialFunctions.Trigonometric.DerivHyp

@[expose] public section

noncomputable section

namespace Cert.Quant

open Idealize.ShloMosaic Idealize.ShloMosaic.ValueIdx

/-- The factor of the gradient: the derivative of the tanh form of GELU at `x`. -/
def hS (x : EReal) : EReal :=
  Ideal.ofBits .f32 0x3F000000#32 * (Ideal.ofBits .f32 0x3F800000#32
      + Ideal.tanh (Ideal.ofBits .f32 0x3F4C422A#32 * (x + Ideal.ofBits .f32 0x3D372713#32 * (x * x) * x)))
    + Ideal.ofBits .f32 0x3F000000#32 * x
      * (Ideal.ofBits .f32 0x3F800000#32
        - Ideal.tanh (Ideal.ofBits .f32 0x3F4C422A#32 * (x + Ideal.ofBits .f32 0x3D372713#32 * (x * x) * x))
          * Ideal.tanh (Ideal.ofBits .f32 0x3F4C422A#32 * (x + Ideal.ofBits .f32 0x3D372713#32 * (x * x) * x)))
      * Ideal.ofBits .f32 0x3F4C422A#32
      * (Ideal.ofBits .f32 0x3F800000#32 + Ideal.ofBits .f32 0x3E095D4F#32 * (x * x))

/-- The derivative of GELU times the gradient. -/
def dg (g x : EReal) : EReal := g * hS x

/-- The constants of the derivative. -/
def kK : ℝ := 13386282 / 2 ^ 24
def kC : ℝ := 12003091 / 2 ^ 28
def kD : ℝ := 9002319 / 2 ^ 26

theorem of_fields (w : BitVec 32) (ex fr : ℕ) (h1 : (w.extractLsb' 23 8).toNat = ex) (h2 : (w.extractLsb' 0 23).toNat = fr)
    (h3 : (w.extractLsb' 31 1 == 1#1) = false) (ha : ex ≠ 255) (hb : ex ≠ 0) :
    Ideal.ofBits .f32 w = ((1 * (2 ^ 23 + fr : ℕ) * (2 : ℝ) ^ ((ex : ℤ) - 127 - 23) : ℝ) : EReal) := by
  rw [ieee_of w ex fr h1 h2 h3, if_neg ha, if_neg hb]

theorem const_half : Ideal.ofBits .f32 0x3F000000#32 = ((1 / 2 : ℝ) : EReal) := by
  refine (of_fields _ 126 0 (by decide) (by decide) (by decide) (by decide) (by decide)).trans (EReal.coe_eq_coe_iff.mpr ?_)
  norm_num
theorem const_K : Ideal.ofBits .f32 0x3F4C422A#32 = ((kK : ℝ) : EReal) := by
  refine (of_fields _ 126 0x4C422A (by decide) (by decide) (by decide) (by decide) (by decide)).trans (EReal.coe_eq_coe_iff.mpr ?_)
  unfold kK; norm_num
theorem const_C : Ideal.ofBits .f32 0x3D372713#32 = ((kC : ℝ) : EReal) := by
  refine (of_fields _ 122 0x372713 (by decide) (by decide) (by decide) (by decide) (by decide)).trans (EReal.coe_eq_coe_iff.mpr ?_)
  unfold kC; norm_num
theorem const_D : Ideal.ofBits .f32 0x3E095D4F#32 = ((kD : ℝ) : EReal) := by
  refine (of_fields _ 124 0x095D4F (by decide) (by decide) (by decide) (by decide) (by decide)).trans (EReal.coe_eq_coe_iff.mpr ?_)
  unfold kD; norm_num

/-- The factor at a real number. -/
def hR (x : ℝ) : ℝ :=
  1 / 2 * (1 + Real.tanh (kK * (x + kC * (x * x) * x)))
    + 1 / 2 * x * (1 - Real.tanh (kK * (x + kC * (x * x) * x)) * Real.tanh (kK * (x + kC * (x * x) * x))) * kK
      * (1 + kD * (x * x))

theorem hS_coe (x : ℝ) : hS (x : EReal) = ((hR x : ℝ) : EReal) := by
  unfold hS hR
  rw [const_half, const_one, const_K, const_C, const_D]
  rw [← EReal.coe_mul x x, ← EReal.coe_mul, ← EReal.coe_mul, ← EReal.coe_add, ← EReal.coe_mul]
  show (((1 / 2 : ℝ) : EReal) * (((1 : ℝ) : EReal) + ((Real.tanh _ : ℝ) : EReal))
    + ((1 / 2 : ℝ) : EReal) * (x : EReal) * (((1 : ℝ) : EReal) - ((Real.tanh _ : ℝ) : EReal) * ((Real.tanh _ : ℝ) : EReal)) * ((kK : ℝ) : EReal) * _) = _
  simp only [← EReal.coe_mul, ← EReal.coe_add, ← EReal.coe_sub]

theorem hS_top : hS ⊤ = ((1 : ℝ) : EReal) := by
  unfold hS
  rw [const_half, const_one, const_K, const_C, const_D]
  have k0 : (0 : ℝ) < kK := by unfold kK; norm_num
  have c0 : (0 : ℝ) < kC := by unfold kC; norm_num
  rw [EReal.top_mul_top, EReal.coe_mul_top_of_pos c0, EReal.top_mul_top, EReal.top_add_top, EReal.coe_mul_top_of_pos k0]
  show ((1 / 2 : ℝ) : EReal) * (((1 : ℝ) : EReal) + 1)
    + ((1 / 2 : ℝ) : EReal) * ⊤ * (((1 : ℝ) : EReal) - 1 * 1) * ((kK : ℝ) : EReal) * _ = _
  rw [show ((1 : ℝ) : EReal) - 1 * 1 = 0 by rw [mul_one, ← EReal.coe_one, ← EReal.coe_sub, sub_self, EReal.coe_zero]]
  rw [mul_zero, zero_mul, zero_mul, add_zero, ← EReal.coe_one, ← EReal.coe_add, ← EReal.coe_mul]
  norm_num

theorem hS_bot : hS ⊥ = ((0 : ℝ) : EReal) := by
  unfold hS
  rw [const_half, const_one, const_K, const_C, const_D]
  have k0 : (0 : ℝ) < kK := by unfold kK; norm_num
  have c0 : (0 : ℝ) < kC := by unfold kC; norm_num
  rw [EReal.bot_mul_bot, EReal.coe_mul_top_of_pos c0, EReal.top_mul_bot, EReal.bot_add, EReal.coe_mul_bot_of_pos k0]
  show ((1 / 2 : ℝ) : EReal) * (((1 : ℝ) : EReal) + -1)
    + ((1 / 2 : ℝ) : EReal) * ⊥ * (((1 : ℝ) : EReal) - -1 * -1) * ((kK : ℝ) : EReal) * _ = _
  rw [show ((1 : ℝ) : EReal) - -1 * -1 = 0 by
    rw [neg_mul_neg, mul_one, ← EReal.coe_one, ← EReal.coe_sub, sub_self, EReal.coe_zero]]
  rw [mul_zero, zero_mul, zero_mul, add_zero, ← EReal.coe_one, ← EReal.coe_neg, ← EReal.coe_add, ← EReal.coe_mul]
  norm_num

/-- One less the square of the hyperbolic tangent. -/
theorem one_sub_tanh (u : ℝ) : 0 ≤ 1 - Real.tanh u * Real.tanh u ∧ (1 - Real.tanh u * Real.tanh u) * (1 + u ^ 2) ≤ 1 := by
  have hc : 0 < Real.cosh u := Real.cosh_pos u
  have e : 1 - Real.tanh u * Real.tanh u = 1 / Real.cosh u ^ 2 := by
    rw [Real.tanh_eq_sinh_div_cosh]
    field_simp
    have := Real.cosh_sq u
    linarith
  have hs : u ^ 2 ≤ Real.sinh u ^ 2 := by
    have h : |u| ≤ |Real.sinh u| := by
      rcases le_total 0 u with h0 | h0
      · have := Real.self_le_sinh_iff.mpr h0
        rw [abs_of_nonneg h0, abs_of_nonneg (le_trans h0 this)]; exact this
      · have := Real.sinh_le_self_iff.mpr h0
        rw [abs_of_nonpos h0, abs_of_nonpos (le_trans this h0)]; linarith
    exact sq_le_sq.mpr h
  rw [e]
  refine ⟨by positivity, ?_⟩
  rw [one_div, inv_mul_le_iff₀ (by positivity), mul_one, Real.cosh_sq]
  linarith

theorem tanh_abs (u : ℝ) : |Real.tanh u| ≤ 1 := by
  have := (one_sub_tanh u).1
  exact abs_le_one_iff_mul_self_le_one.mpr (by linarith)

/-- The factor is at most three in magnitude. -/
theorem hR_abs (x : ℝ) : |hR x| ≤ 3 := by
  unfold hR
  generalize hu : kK * (x + kC * (x * x) * x) = u
  obtain ⟨w0, w1⟩ := one_sub_tanh u
  have ht := abs_le.mp (tanh_abs u)
  generalize hw : 1 - Real.tanh u * Real.tanh u = w at w0 w1
  have first : |1 / 2 * (1 + Real.tanh u)| ≤ 1 := by rw [abs_le]; constructor <;> linarith
  have k0 : (0 : ℝ) < kK := by unfold kK; norm_num
  have second : |1 / 2 * x * w * kK * (1 + kD * (x * x))| ≤ 2 := by
    -- with `s = |x| (1 + C x²)` the square of `u` is `K² s²`, and the product is at most `1.3 s w`
    have hu2 : u ^ 2 = kK ^ 2 * (x ^ 2 * (1 + kC * x ^ 2) ^ 2) := by rw [← hu]; ring
    have a : |1 / 2 * x * w * kK * (1 + kD * (x * x))| = 1 / 2 * kK * (|x| * (1 + kD * x ^ 2)) * w := by
      have hd : (0 : ℝ) ≤ 1 + kD * (x * x) := by
        have h : (0 : ℝ) ≤ kD := by unfold kD; norm_num
        exact add_nonneg zero_le_one (mul_nonneg h (mul_self_nonneg x))
      rw [abs_mul, abs_mul, abs_mul, abs_mul, abs_of_nonneg w0, abs_of_nonneg k0.le, abs_of_nonneg hd,
        abs_of_nonneg (by norm_num : (0 : ℝ) ≤ 1 / 2)]
      ring
    rw [a]
    have hx : 0 ≤ |x| := abs_nonneg x
    have hx2 : x ^ 2 = |x| ^ 2 := (sq_abs x).symm
    rw [hx2] at hu2 ⊢
    generalize |x| = y at hx hu2
    have hs : 0 ≤ y * (1 + kC * y ^ 2) := by
      have : (0 : ℝ) ≤ kC := by unfold kC; norm_num
      positivity
    have le : y * (1 + kD * y ^ 2) ≤ 3.1 * (y * (1 + kC * y ^ 2)) := by
      have : kD ≤ 3.1 * kC := by unfold kD kC; norm_num
      nlinarith [mul_nonneg hx (sq_nonneg y), mul_le_mul_of_nonneg_right this (mul_nonneg hx (sq_nonneg y))]
    generalize hS : y * (1 + kC * y ^ 2) = s at hs le
    have hu3 : u ^ 2 = kK ^ 2 * s ^ 2 := by rw [hu2, ← hS]; ring
    rw [hu3] at w1
    have kl : (1 / 2 : ℝ) * kK * 3.1 ≤ 1.25 := by unfold kK; norm_num
    have kq : (0.63 : ℝ) ≤ kK ^ 2 := by unfold kK; norm_num
    have hsw : s * w ≤ 0.64 := by
      have : w * (1 + 0.63 * s ^ 2) ≤ 1 := by nlinarith [mul_nonneg w0 (sq_nonneg s)]
      nlinarith [mul_nonneg w0 (sq_nonneg (0.79 * s - 1)), mul_nonneg w0 hs]
    have hsw0 : 0 ≤ s * w := mul_nonneg hs w0
    calc 1 / 2 * kK * (y * (1 + kD * y ^ 2)) * w ≤ 1 / 2 * kK * (3.1 * s) * w := by
          apply mul_le_mul_of_nonneg_right _ w0
          exact mul_le_mul_of_nonneg_left le (by positivity)
      _ = (1 / 2 * kK * 3.1) * (s * w) := by ring
      _ ≤ 1.25 * 0.64 := mul_le_mul kl hsw hsw0 (by norm_num)
      _ ≤ 2 := by norm_num
  calc _ ≤ |1 / 2 * (1 + Real.tanh u)| + |1 / 2 * x * w * kK * (1 + kD * (x * x))| := abs_add_le _ _
    _ ≤ 3 := by linarith

/-- The factor is a real number of magnitude at most three at every extended real. -/
theorem hS_real (x : EReal) : ∃ h : ℝ, hS x = (h : EReal) ∧ |h| ≤ 3 := by
  induction x with
  | bot => exact ⟨0, hS_bot, by norm_num⟩
  | top => exact ⟨1, hS_top, by norm_num⟩
  | coe r => exact ⟨hR r, hS_coe r, hR_abs r⟩

/-- The derivative is real, and at most three times the bound of the gradient. -/
theorem dg_real (g x : EReal) (B : ℝ) (hg : max g (-g) ≤ (B : EReal)) :
    ∃ d : ℝ, dg g x = (d : EReal) ∧ |d| ≤ 3 * B := by
  obtain ⟨h, e, hb⟩ := hS_real x
  induction g with
  | bot => rw [EReal.neg_bot, max_eq_right bot_le, top_le_iff] at hg; exact absurd hg (EReal.coe_ne_top _)
  | top => rw [max_eq_left le_top, top_le_iff] at hg; exact absurd hg (EReal.coe_ne_top _)
  | coe r =>
    rw [max_le_iff, ← EReal.coe_neg, EReal.coe_le_coe_iff, EReal.coe_le_coe_iff] at hg
    refine ⟨r * h, by unfold dg; rw [e, EReal.coe_mul], ?_⟩
    rw [abs_mul]
    have : |r| ≤ B := abs_le.mpr ⟨by linarith, hg.1⟩
    nlinarith [abs_nonneg r, abs_nonneg h]

end Cert.Quant

end
-- ==== Proof.Elem.lean ====
/- What both programs compute at one index, in terms of the derivative at a token and a channel: the largest
   magnitude of a block of 32 over 448, clipping, and how large these can be. -/
module

public import proofs.«01_k».proof.Proof.Bound

@[expose] public section

noncomputable section

namespace Cert.Quant

open Idealize.ShloMosaic Idealize.ShloMosaic.ValueIdx

/-- The derivative times the gradient at token `n` and channel `c`. -/
def DN (a0 a1 : (⟨2, ![1536, 16384]⟩ : Shape).Idx → EReal) (n c : ℕ) : EReal :=
  dg (a0 (ix2 ⟨n % 1536, Nat.mod_lt _ (by decide)⟩ ⟨c % 16384, Nat.mod_lt _ (by decide)⟩))
    (a1 (ix2 ⟨n % 1536, Nat.mod_lt _ (by decide)⟩ ⟨c % 16384, Nat.mod_lt _ (by decide)⟩))

/-- The largest magnitude of a block, over 448. -/
def amaxS (f : Fin 32 → EReal) : EReal :=
  (Finset.univ : Finset (Fin 32)).fold max (Ideal.ofBits .f32 0xFF800000#32) (fun l => max (f l) (-(f l)))
    * Ideal.ofBits .f32 0x3B124925#32

/-- Block `b` of the channels of token `n`. -/
def PR (a0 a1 : (⟨2, ![1536, 16384]⟩ : Shape).Idx → EReal) (n b : ℕ) : EReal :=
  amaxS fun l => DN a0 a1 n (32 * b + l.val)

/-- Block `t` of the tokens of channel `c`. -/
def PC (a0 a1 : (⟨2, ![1536, 16384]⟩ : Shape).Idx → EReal) (c t : ℕ) : EReal :=
  amaxS fun l => DN a0 a1 (32 * t + l.val) c

/-- Clipped to ±448. -/
def clipS (v : EReal) : EReal := min (Ideal.ofBits .f32 0x43E00000#32) (max (Ideal.ofBits .f32 0xC3E00000#32) v)

/-- A vector times a constant, at an index. -/
theorem mulc_at {s : Shape} (x : FVec Ideal s .f32) (w : BitVec 32) (i : s.Idx) :
    mulf x (broadcast s (Scalar.ofBits .f32 w)) i = (x i : EReal) * Ideal.ofBits .f32 w := rfl

theorem ofBits_bot : Ideal.ofBits .f32 0xFF800000#32 = ⊥ := by
  simp [Ideal.ofBits, Ideal.ieee]

/-- 1/448 as a 32-bit float. -/
def kI : ℝ := 9586981 / 2 ^ 32

theorem const_I : Ideal.ofBits .f32 0x3B124925#32 = ((kI : ℝ) : EReal) := by
  refine (of_fields _ 118 0x124925 (by decide) (by decide) (by decide) (by decide) (by decide)).trans (EReal.coe_eq_coe_iff.mpr ?_)
  unfold kI; norm_num

/-- A block of real numbers of magnitude at most `B` has a real, nonnegative, bounded largest magnitude. -/
theorem amaxS_real (f : Fin 32 → EReal) (B : ℝ) (h : ∀ l, ∃ d : ℝ, f l = d ∧ |d| ≤ B) :
    ∃ r : ℝ, amaxS f = r ∧ 0 ≤ r ∧ r ≤ B * kI := by
  have hk : (0 : ℝ) ≤ kI := by unfold kI; norm_num
  have e : ∀ l, ∃ d : ℝ, max (f l) (-(f l)) = ((|d| : ℝ) : EReal) ∧ |d| ≤ B := by
    intro l
    obtain ⟨d, h1, h2⟩ := h l
    refine ⟨d, ?_, h2⟩
    rw [h1, ← EReal.coe_neg]
    rcases le_total 0 d with hd | hd
    · rw [abs_of_nonneg hd, max_eq_left (EReal.coe_le_coe_iff.mpr (by linarith))]
    · rw [abs_of_nonpos hd, max_eq_right (EReal.coe_le_coe_iff.mpr (by linarith))]
  unfold amaxS
  generalize hM : (Finset.univ : Finset (Fin 32)).fold max (Ideal.ofBits .f32 0xFF800000#32) (fun l => max (f l) (-(f l))) = M
  have up : M ≤ ((B : ℝ) : EReal) := by
    rw [← hM, Finset.fold_max_le]
    refine ⟨by rw [ofBits_bot]; exact bot_le, fun l _ => ?_⟩
    obtain ⟨d, h1, h2⟩ := e l
    rw [h1]; exact EReal.coe_le_coe_iff.mpr h2
  have lo : (((0 : ℝ)) : EReal) ≤ M := by
    rw [← hM, Finset.le_fold_max]
    refine .inr ⟨0, Finset.mem_univ _, ?_⟩
    obtain ⟨d, h1, h2⟩ := e 0
    rw [h1]; exact EReal.coe_le_coe_iff.mpr (abs_nonneg d)
  induction M using EReal.rec with
  | bot => exact absurd lo (by simp)
  | top => exact absurd up (by simp)
  | coe x =>
    have x0 := EReal.coe_le_coe_iff.mp lo
    have xB := EReal.coe_le_coe_iff.mp up
    refine ⟨x * kI, ?_, mul_nonneg x0 hk, mul_le_mul_of_nonneg_right xB hk⟩
    rw [const_I, EReal.coe_mul]

/-- The largest finite magnitude of the gradient's format. -/
def kG : ℝ := 255 * 2 ^ 120

theorem const_G : Ideal.ofBits .f32 0x7F7F0000#32 = ((kG : ℝ) : EReal) := by
  refine (of_fields _ 254 0x7F0000 (by decide) (by decide) (by decide) (by decide) (by decide)).trans (EReal.coe_eq_coe_iff.mpr ?_)
  unfold kG; norm_num

/-- Under a finite gradient the two quantizers agree on every block of the derivative: same scale word, same inverse. -/
theorem block_eq (a0 a1 : (⟨2, ![1536, 16384]⟩ : Shape).Idx → EReal)
    (h : ∀ y, max (a0 y) (-(a0 y)) ≤ Ideal.ofBits .f32 0x7F7F0000#32) (n c : Fin 32 → ℕ) :
    scaleS (amaxS fun l => DN a0 a1 (n l) (c l)) = refW (amaxS fun l => DN a0 a1 (n l) (c l))
    ∧ invS (amaxS fun l => DN a0 a1 (n l) (c l)) = refInv (amaxS fun l => DN a0 a1 (n l) (c l)) := by
  obtain ⟨r, e, r0, r1⟩ := amaxS_real (fun l => DN a0 a1 (n l) (c l)) (3 * kG) fun l =>
    dg_real _ _ kG (by rw [← const_G]; exact h _)
  rw [e]
  refine scale_eq r r0 (lt_of_le_of_lt r1 ?_)
  unfold kG kI
  norm_num

end Cert.Quant

end
-- ==== Proof.TileAt.lean ====
/- One tile of the kernel at one index, on extended reals: scale words, inverse scales and codes. -/
module

public import proofs.«01_k».proof.Proof.Hot
public import proofs.«01_k».proof.Proof.Elem
public import Idealize.ShloMosaic.Lib.ValueLayout

@[expose] public section

set_option maxRecDepth 16384

noncomputable section

namespace Cert.KernelIdeal.Run

open Cert.KernelIdeal Cert.KernelIdeal.Gen Cert.Quant
open Idealize.ShloMosaic Idealize.ShloMosaic.TcCoe Idealize.ShloMosaic.ValueIdx

theorem stepE_at {s : Shape} (p : FVec Ideal s .f32) (k : BitVec 32) (b : IVec s 32) (i : s.Idx) :
    stepE p k b i = stepS (p i) k (b i) := rfl

theorem expo_at {s : Shape} (p : FVec Ideal s .f32) (i : s.Idx) : expo p i = expoS (p i) := by
  unfold expo expoS
  simp only [stepE_at]
  rfl

theorem scaleW_at {s : Shape} (p : FVec Ideal s .f32) (i : s.Idx) : scaleW p i = scaleS (p i) := by
  unfold scaleS
  rw [← expo_at]
  unfold scaleW
  generalize expo p = e
  rfl

theorem invW_at {s : Shape} (p : FVec Ideal s .f32) (i : s.Idx) : invW p i = invS (p i) := by
  unfold invS
  rw [← scaleW_at]
  unfold invW
  generalize scaleW p = e
  rfl

theorem clip8_at {s : Shape} (v : FVec Ideal s .f32) (i : s.Idx) : clip8 v i = clipS (v i) := rfl

theorem tileT_at (f : FVec Ideal S128x256 .f32) (c : Fin 256) (r : Fin 128) : tileT f (ix2 c r) = f (ix2 r c) :=
  transpose_ix2_apply f transposes_S128x256_p1_0_S256x128 c r

theorem tilePR_at (f : FVec Ideal S128x256 .f32) (b : Fin 8) (r : Fin 128) :
    tilePR f (ix2 b r) = amaxS fun l => f (ix2 r ⟨32 * b.val + l.val, by omega⟩) := by
  unfold tilePR
  unfold cst
  refine (mulc_at _ _ _).trans ?_
  unfold amaxS
  refine congrArg (· * Ideal.ofBits .f32 0x3B124925#32) ((Ideal.multiReduction_maximumf_single _ _ _ _ _ _).trans ?_)
  refine (Finset.fold_congr (s := (Finset.univ : Finset (Fin 32))) fun l _ => ?_)
  have e : shapeCast S8x32x128 (absf (tileT f)) shapeCasts_S256x128_S8x32x128
      (reduces_S8x32x128_S8x128.lift (ix2 b r) l) = absf (tileT f) (ix2 ⟨32 * b.val + l.val, by omega⟩ r) :=
    shapeCast_apply _ _ _ _ (by
      rw [Shape.rowMajor_val_three, Shape.rowMajor_val_two]
      show (32 * b.val + l.val) * 128 + r.val = (b.val * 32 + l.val) * 128 + r.val
      omega)
  refine e.trans ?_
  exact congrArg (fun v : EReal => max v (-v)) (tileT_at f _ r)

theorem tilePC_at (f : FVec Ideal S128x256 .f32) (t : Fin 4) (c : Fin 256) :
    tilePC f (ix2 t c) = amaxS fun l => f (ix2 ⟨32 * t.val + l.val, by omega⟩ c) := by
  unfold tilePC
  unfold cst
  refine (mulc_at _ _ _).trans ?_
  unfold amaxS
  refine congrArg (· * Ideal.ofBits .f32 0x3B124925#32) ((Ideal.multiReduction_maximumf_single _ _ _ _ _ _).trans ?_)
  refine (Finset.fold_congr (s := (Finset.univ : Finset (Fin 32))) fun l _ => ?_)
  have e : shapeCast S4x32x256 (absf f) shapeCasts_S128x256_S4x32x256
      (reduces_S4x32x256_S4x256.lift (ix2 t c) l) = absf f (ix2 ⟨32 * t.val + l.val, by omega⟩ c) :=
    shapeCast_apply _ _ _ _ (by
      rw [Shape.rowMajor_val_three, Shape.rowMajor_val_two]
      show (32 * t.val + l.val) * 256 + c.val = (t.val * 32 + l.val) * 256 + c.val
      omega)
  exact e

theorem tileRC_at (f : FVec Ideal S128x256 .f32) (r : Fin 128) (c : Fin 256) :
    tileRC f (ix2 r c) = clipS (f (ix2 r c) * invS (tilePR f (ix2 ⟨c.val / 32, by omega⟩ r))) := by
  unfold tileRC
  generalize tilePR f = p
  rw [clip8_at]
  refine congrArg (fun v => clipS (f (ix2 r c) * v)) ?_
  exact (dotR_at _ r c).trans (invW_at p _)

theorem tileCC_at (f : FVec Ideal S128x256 .f32) (c : Fin 256) (r : Fin 128) :
    tileCC f (ix2 c r) = clipS (f (ix2 r c) * invS (tilePC f (ix2 ⟨r.val / 32, by omega⟩ c))) := by
  unfold tileCC
  generalize tilePC f = p
  rw [clip8_at]
  show clipS (tileT f (ix2 c r) * _) = _
  rw [tileT_at]
  refine congrArg (fun v => clipS (f (ix2 r c) * v)) ?_
  exact (dotC_at _ c r).trans (invW_at p _)

end Cert.KernelIdeal.Run

end
-- ==== Proof.SumAt.lean ====
/- The bias gradient of one window, on extended reals: the partial sums are the sum over all tokens, regrouped. -/
module

public import proofs.«01_k».proof.Proof.Tile
public import proofs.«01_k».proof.Proof.Elem
public import Idealize.ShloMosaic.Lib.ValueLayout

@[expose] public section

set_option maxRecDepth 16384

noncomputable section

namespace Cert.KernelIdeal.Run

open Cert.KernelIdeal Cert.KernelIdeal.Gen Cert.Quant
open Idealize.ShloMosaic Idealize.ShloMosaic.TcCoe Idealize.ShloMosaic.ValueIdx

theorem tileAcc_at (acc : FVec Ideal S8x256 .f32) (f : FVec Ideal S128x256 .f32) (q : Fin 8) (c : Fin 256) :
    tileAcc acc f (ix2 q c) = acc (ix2 q c) + ∑ u : Fin 16, f (ix2 ⟨8 * u.val + q.val, by omega⟩ c) := by
  unfold tileAcc
  show acc (ix2 q c) + multiReduction (F := Ideal) .add [0] S8x256 _ 0x00000000#32 _ _ _ (ix2 q c) = _
  refine congrArg (acc (ix2 q c) + ·) ((Ideal.multiReduction_add_single _ _ _ _ _ _).trans ?_)
  refine (Finset.sum_congr (s₁ := (Finset.univ : Finset (Fin 16))) rfl fun u _ => ?_)
  exact shapeCast_apply _ _ _ _ (by
    rw [Shape.rowMajor_val_three, Shape.rowMajor_val_two]
    show (8 * u.val + q.val) * 256 + c.val = (u.val * 8 + q.val) * 256 + c.val
    omega)

/-- A sum over `a` groups of `b`. -/
theorem sum_groups (g : ℕ → EReal) (a b : ℕ) :
    ∑ k ∈ Finset.range a, ∑ r ∈ Finset.range b, g (b * k + r) = ∑ n ∈ Finset.range (a * b), g n := by
  induction a with
  | zero => simp
  | succ a ih => rw [Finset.sum_range_succ, ih, Nat.succ_mul, Finset.sum_range_add, Nat.mul_comm b a]

theorem accOf_at (f : ℕ → FVec Ideal S128x256 .f32) (g : ℕ → EReal) (c : Fin 256)
    (hf : ∀ (k : ℕ) (r : Fin 128), f k (ix2 r c) = g (128 * k + r.val)) (q : Fin 8) (n : ℕ) :
    accOf f n (ix2 q c) = ∑ k ∈ Finset.range n, ∑ u ∈ Finset.range 16, g (128 * k + (8 * u + q.val)) := by
  induction n with
  | zero => exact Ideal.ofBits_zero_f32.trans (by simp)
  | succ n ih =>
    show tileAcc (accOf f n) (f n) (ix2 q c) = _
    rw [tileAcc_at, ih, Finset.sum_range_succ, Finset.sum_range (n := 16)]
    refine congrArg (_ + ·) (Finset.sum_congr rfl fun u _ => ?_)
    rw [hf]

theorem sumOut_at (f : ℕ → FVec Ideal S128x256 .f32) (g : ℕ → EReal) (c : Fin 256)
    (hf : ∀ (k : ℕ) (r : Fin 128), f k (ix2 r c) = g (128 * k + r.val)) (z : Fin 1) :
    sumOut f (ix2 z c) = ∑ n ∈ Finset.range 1536, g n := by
  unfold sumOut
  rw [shapeCast_a_1a_apply]
  refine (Ideal.multiReduction_add_single _ _ _ _ _ _).trans ?_
  have e : ∑ q : Fin 8, accOf f 12 (ix2 q c)
      = ∑ q ∈ Finset.range 8, ∑ k ∈ Finset.range 12, ∑ u ∈ Finset.range 16, g (128 * k + (8 * u + q)) := by
    rw [Finset.sum_range]
    exact Finset.sum_congr rfl fun q _ => accOf_at f g c hf q 12
  refine Eq.trans ?_ (e.trans ?_)
  · refine Finset.sum_congr (s₁ := (Finset.univ : Finset (Fin 8))) rfl fun q _ => congrArg (accOf f 12) ?_
    exact eq_ix2 _
  · rw [Finset.sum_comm, ← sum_groups g 12 128]
    refine Finset.sum_congr rfl fun k _ => ?_
    rw [Finset.sum_comm]
    exact sum_groups (fun r => g (128 * k + r)) 16 8

end Cert.KernelIdeal.Run

end
-- ==== Proof.KernelAt.lean ====
/- The kernel's five results at one index, on extended reals. -/
module

public import proofs.«01_k».proof.Proof.Arrays
public import proofs.«01_k».proof.Proof.TileAt
public import proofs.«01_k».proof.Proof.SumAt
public import Idealize.ShloMosaic.Lib.ValueLayout

@[expose] public section

set_option maxRecDepth 16384

noncomputable section

namespace Cert.KernelIdeal.Run

open Cert.KernelIdeal Cert.KernelIdeal.Gen Cert.Quant
open Idealize.ShloMosaic Idealize.ShloMosaic.TcCoe Idealize.ShloMosaic.ValueIdx

theorem sF_at (a0 a1 : Vec Ideal S1536x16384 .bf16) (s k : ℕ) (r : Fin 128) (c : Fin 256) :
    sF (F := Ideal) a0 a1 s k (ix2 r c) = DN a0 a1 (128 * k + r.val) (256 * s + c.val) := rfl

variable (a0 a1 : Vec Ideal S1536x16384 .bf16)

theorem K2_at (z : Fin 1) (c : Fin 16384) : K2 a0 a1 (ix2 z c) = ∑ n ∈ Finset.range 1536, DN a0 a1 n c.val := by
  show sumOut (sF a0 a1 (c.val / 256)) (ix2 0 ⟨c.val % 256, _⟩) = _
  refine sumOut_at _ (fun n => DN a0 a1 n c.val) _ (fun k r => ?_) 0
  rw [sF_at]
  congr 1
  show 256 * (c.val / 256) + c.val % 256 = c.val
  omega

theorem PR_tile (n c b : ℕ) (hn : n < 1536) (hb : b < 8) :
    tilePR (sF (F := Ideal) a0 a1 c (n / 128)) (ix2 ⟨b, hb⟩ ⟨n % 128, Nat.mod_lt _ (by decide)⟩) = PR a0 a1 n (8 * c + b) := by
  rw [tilePR_at]
  unfold PR
  congr 1
  funext l
  rw [sF_at]
  congr 1
  · show 128 * (n / 128) + n % 128 = n
    omega
  · show 256 * c + (32 * b + l.val) = 32 * (8 * c + b) + l.val
    omega

theorem PC_tile (n c b : ℕ) (hb : b < 4) :
    tilePC (sF (F := Ideal) a0 a1 (c / 256) n) (ix2 ⟨b, hb⟩ ⟨c % 256, Nat.mod_lt _ (by decide)⟩) = PC a0 a1 c (4 * n + b) := by
  rw [tilePC_at]
  unfold PC
  congr 1
  funext l
  rw [sF_at]
  congr 1
  · show 128 * n + (32 * b + l.val) = 32 * (4 * n + b) + l.val
    omega
  · show 256 * (c / 256) + c % 256 = c
    omega

theorem K3_at (n : Fin 1536) (c : Fin 16384) :
    K3 a0 a1 (ix2 n c) = clipS (DN a0 a1 n.val c.val * invS (PR a0 a1 n.val (c.val / 32))) := by
  show tileRC (sF a0 a1 (c.val / 256) (n.val / 128)) (ix2 ⟨n.val % 128, Nat.mod_lt _ (by decide)⟩ ⟨c.val % 256, Nat.mod_lt _ (by decide)⟩) = _
  rw [tileRC_at, PR_tile a0 a1 n.val _ _ n.isLt, sF_at]
  have e1 : 128 * (n.val / 128) + n.val % 128 = n.val := by omega
  have e2 : 256 * (c.val / 256) + c.val % 256 = c.val := by omega
  have e3 : 8 * (c.val / 256) + c.val % 256 / 32 = c.val / 32 := by omega
  rw [e1, e2, e3]

theorem K4_at (n : Fin 1536) (b : Fin 512) : K4 a0 a1 (ix2 n b) = (scaleS (PR a0 a1 n.val b.val)).setWidth 8 := by
  show (scaleW (tilePR (sF a0 a1 (b.val / 8) (n.val / 128))) (ix2 ⟨b.val % 8 % 8, Nat.mod_lt _ (by decide)⟩ ⟨n.val % 128, Nat.mod_lt _ (by decide)⟩)).setWidth 8 = _
  rw [scaleW_at, PR_tile a0 a1 n.val _ _ n.isLt]
  have e : 8 * (b.val / 8) + b.val % 8 % 8 = b.val := by omega
  rw [e]

theorem K5_at (c : Fin 16384) (n : Fin 1536) :
    K5 a0 a1 (ix2 c n) = clipS (DN a0 a1 n.val c.val * invS (PC a0 a1 c.val (n.val / 32))) := by
  show tileCC (sF a0 a1 (c.val / 256) (n.val / 128)) (ix2 ⟨c.val % 256, Nat.mod_lt _ (by decide)⟩ ⟨n.val % 128, Nat.mod_lt _ (by decide)⟩) = _
  rw [tileCC_at, PC_tile a0 a1 _ c.val, sF_at]
  have e1 : 128 * (n.val / 128) + n.val % 128 = n.val := by omega
  have e2 : 256 * (c.val / 256) + c.val % 256 = c.val := by omega
  have e3 : 4 * (n.val / 128) + n.val % 128 / 32 = n.val / 32 := by omega
  rw [e1, e2, e3]

theorem K6_at (c : Fin 16384) (t : Fin 48) : K6 a0 a1 (ix2 c t) = (scaleS (PC a0 a1 c.val t.val)).setWidth 8 := by
  show (scaleW (tilePC (sF a0 a1 (c.val / 256) (t.val / 4))) (ix2 ⟨t.val % 4, Nat.mod_lt _ (by decide)⟩ ⟨c.val % 256, Nat.mod_lt _ (by decide)⟩)).setWidth 8 = _
  rw [scaleW_at, PC_tile a0 a1 _ c.val]
  have e : 4 * (t.val / 4) + t.val % 4 = t.val := by omega
  rw [e]

end Cert.KernelIdeal.Run

end
-- ==== Proof.RefRun.lean ====
/- The reference's run, read: it has one grid point and every window is a whole array, so each result array is its
   stored value (`k0_pay…` of Gen/ReferenceIdeal/Skeleton.lean) applied to the two argument arrays. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S1x16384.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S1536x16384.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S1536x512.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x1536.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x48.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      post6 m r h c,
      kept_main_arg0 m r h c,
      kept_main_arg1 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1536x16384.Idx) : ((cfg0.win 0).blk t).view.emb j = j := by
  obtain ⟨e0, e1⟩ := idx_zero0 t
  funext a; apply Fin.ext
  match a with
  | ⟨0, _⟩ => show win0_0.index t (0 : Fin 2) * 1536 + 1 * (j 0).val = (j 0).val; omega
  | ⟨1, _⟩ => show win0_0.index t (1 : Fin 2) * 16384 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1536x16384.Idx) : ((cfg0.win 1).blk t).view.emb j = j := by
  obtain ⟨e0, e1⟩ := idx_zero1 t
  funext a; apply Fin.ext
  match a with
  | ⟨0, _⟩ => show win0_1.index t (0 : Fin 2) * 1536 + 1 * (j 0).val = (j 0).val; omega
  | ⟨1, _⟩ => show win0_1.index t (1 : Fin 2) * 16384 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x16384.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 16384 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1536x16384.Idx) : ((cfg0.win 3).blk t).view.emb j = j := by
  obtain ⟨e0, e1⟩ := idx_zero3 t
  funext a; apply Fin.ext
  match a with
  | ⟨0, _⟩ => show win0_3.index t (0 : Fin 2) * 1536 + 1 * (j 0).val = (j 0).val; omega
  | ⟨1, _⟩ => show win0_3.index t (1 : Fin 2) * 16384 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1536x512.Idx) : ((cfg0.win 4).blk t).view.emb j = j := by
  obtain ⟨e0, e1⟩ := idx_zero4 t
  funext a; apply Fin.ext
  match a with
  | ⟨0, _⟩ => show win0_4.index t (0 : Fin 2) * 1536 + 1 * (j 0).val = (j 0).val; omega
  | ⟨1, _⟩ => show win0_4.index t (1 : Fin 2) * 512 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S16384x1536.Idx) : ((cfg0.win 5).blk t).view.emb j = j := by
  obtain ⟨e0, e1⟩ := idx_zero5 t
  funext a; apply Fin.ext
  match a with
  | ⟨0, _⟩ => show win0_5.index t (0 : Fin 2) * 16384 + 1 * (j 0).val = (j 0).val; omega
  | ⟨1, _⟩ => show win0_5.index t (1 : Fin 2) * 1536 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x48.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 48 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S1536x16384 .bf16) (a1 : Vec F S1536x16384 .bf16) : Vec F S1x16384 .f32 :=
  k0_pay5 a0 a1

/-- A load of the whole of a block reads the block, and the one store through the whole rectangle leaves its payload. -/
theorem out2_eq (a0 : Vec F S1536x16384 .bf16) (a1 : Vec F S1536x16384 .bf16) : out0_2 (F := F) a0 a1 = G2 a0 a1 := by
  unfold out0_2
  rw [View.canon_unit_zero hz2, View.ld_unit_zero (S := S1536x16384) hz0 _ a0, View.ld_unit_zero (S := S1536x16384) hz1 _ a1]

/-- Cutting the point's block out of `X` and reading `X` through the block's view give the same. -/
theorem cut2_eq (t : Fin cfg0.N) (X : Vec F S1x16384 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S1x16384.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S1536x16384 .bf16) (a1 : Vec F S1536x16384 .bf16) : Vec F S1536x16384 .fp8e4m3 :=
  k0_pay10 (k0_pay6 a0 a1) (k0_pay18 a0 a1) (k0_pay19 a0 a1)

/-- A load of the whole of a block reads the block, and the one store through the whole rectangle leaves its payload. -/
theorem out3_eq (a0 : Vec F S1536x16384 .bf16) (a1 : Vec F S1536x16384 .bf16) : out0_3 (F := F) a0 a1 = G3 a0 a1 := by
  unfold out0_3
  rw [View.canon_unit_zero hz3, View.ld_unit_zero (S := S1536x16384) hz0 _ a0, View.ld_unit_zero (S := S1536x16384) hz1 _ a1]

/-- Cutting the point's block out of `X` and reading `X` through the block's view give the same. -/
theorem cut3_eq (t : Fin cfg0.N) (X : Vec F S1536x16384 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S1536x16384.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S1536x16384 .bf16) (a1 : Vec F S1536x16384 .bf16) : Vec F S1536x512 .i8 :=
  k0_pay11 (k0_pay18 a0 a1) (k0_pay19 a0 a1)

/-- The one store through the whole rectangle leaves its payload. -/
theorem out4_eq (a0 : Vec F S1536x16384 .bf16) (a1 : Vec F S1536x16384 .bf16) : out0_4 (F := F) a0 a1 = G4 a0 a1 := by
  unfold out0_4
  rw [View.canon_unit_zero hz4]

/-- Cutting the point's block out of `X` and reading `X` through the block's view give the same. -/
theorem cut4_eq (t : Fin cfg0.N) (X : Vec F S1536x512 .i8) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S1536x512.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ### Output window 5: the array after the run -/

/-- What the window's array ends holding: `out0_5` applied to the argument arrays in place of the input blocks (a value that the
    frame states apart, `kK_payN a…`, keeps its loads inside its own definition). -/
abbrev G5 (a0 : Vec F S1536x16384 .bf16) (a1 : Vec F S1536x16384 .bf16) : Vec F S16384x1536 .fp8e4m3 :=
  k0_pay2 (k0_pay12 (k0_pay17 a0 a1)) (k0_pay20 a0 a1) (k0_pay21 a0 a1) (k0_pay22 a0 a1)

/-- The one store through the whole rectangle leaves its payload. -/
theorem out5_eq (a0 : Vec F S1536x16384 .bf16) (a1 : Vec F S1536x16384 .bf16) : out0_5 (F := F) a0 a1 = G5 a0 a1 := by
  unfold out0_5
  rw [View.canon_unit_zero hz5]

/-- Cutting the point's block out of `X` and reading `X` through the block's view give the same. -/
theorem cut5_eq (t : Fin cfg0.N) (X : Vec F S16384x1536 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1)) := by
  show (cfg0.win 5).cut (grid0.coords t) ((dats m 0 c).after 5 t) = _
  rw [after0_5, out5_eq, iblk0_eq, iblk1_eq]
  exact cut5_eq t _

/-- Every index of the array is in the point's block. -/
theorem covered5 (i : S16384x1536.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) :=
  ((dats m 0 c).arrAt_eq_of_cover 5 (G5 (V m c main_arg0) (V m c main_arg1)) (fun t _ => flushed5_eq m c t) covered5).trans (by rw [V_main_arg0, V_main_arg1])

/-! ### Output window 6: the array after the run -/

/-- What the window's array ends holding: `out0_6` applied to the argument arrays in place of the input blocks (a value that the
    frame states apart, `kK_payN a…`, keeps its loads inside its own definition). -/
abbrev G6 (a0 : Vec F S1536x16384 .bf16) (a1 : Vec F S1536x16384 .bf16) : Vec F S16384x48 .i8 :=
  k0_pay3 (k0_pay20 a0 a1) (k0_pay21 a0 a1) (k0_pay22 a0 a1)

/-- The one store through the whole rectangle leaves its payload. -/
theorem out6_eq (a0 : Vec F S1536x16384 .bf16) (a1 : Vec F S1536x16384 .bf16) : out0_6 (F := F) a0 a1 = G6 a0 a1 := by
  unfold out0_6
  rw [View.canon_unit_zero hz6]

/-- Cutting the point's block out of `X` and reading `X` through the block's view give the same. -/
theorem cut6_eq (t : Fin cfg0.N) (X : Vec F S16384x48 .i8) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1)) := by
  show (cfg0.win 6).cut (grid0.coords t) ((dats m 0 c).after 6 t) = _
  rw [after0_6, out6_eq, iblk0_eq, iblk1_eq]
  exact cut6_eq t _

/-- Every index of the array is in the point's block. -/
theorem covered6 (i : S16384x48.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) :=
  ((dats m 0 c).arrAt_eq_of_cover 6 (G6 (V m c main_arg0) (V m c main_arg1)) (fun t _ => flushed6_eq m c t) covered6).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_v0_3) = G5 (m ((c : Thread nD τ).loc main_arg0)) (m ((c : Thread nD τ).loc main_arg1))
      ∧ r.2.mem ((c : Thread nD τ).loc main_v0_4) = G6 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      (post6 m r h c).trans (final6 m c),
      kept_main_arg0 m r h c,
      kept_main_arg1 m r h c⟩)
    (run_main m ρ)

end Cert.ReferenceIdeal.Run

end
-- ==== Proof.RefAt.lean ====
/- The reference's five results at one index, on extended reals. -/
module

public import proofs.«01_k».proof.Proof.RefRun
public import proofs.«01_k».proof.Proof.Elem
public import Idealize.ShloMosaic.Lib.ValueLayout

@[expose] public section

set_option maxRecDepth 16384

noncomputable section

namespace Cert.ReferenceIdeal.Run

open Cert.ReferenceIdeal Cert.ReferenceIdeal.Gen Cert.Quant
open Idealize.ShloMosaic Idealize.ShloMosaic.TcCoe Idealize.ShloMosaic.ValueIdx

variable (a0 a1 : Vec Ideal S1536x16384 .bf16)

theorem pay4_at (n : Fin 1536) (c : Fin 16384) : k0_pay4 (F := Ideal) a0 a1 (ix2 n c) = DN a0 a1 n.val c.val := by
  have e : k0_pay4 (F := Ideal) a0 a1 (ix2 n c) = dg (a0 (ix2 n c)) (a1 (ix2 n c)) := rfl
  have h : (ix2 n c : (⟨2, ![1536, 16384]⟩ : Shape).Idx)
      = ix2 ⟨n.val % 1536, Nat.mod_lt _ (by decide)⟩ ⟨c.val % 16384, Nat.mod_lt _ (by decide)⟩ := by
    congr 1 <;> apply Fin.ext
    · exact (Nat.mod_eq_of_lt n.isLt).symm
    · exact (Nat.mod_eq_of_lt c.isLt).symm
  rw [e]
  unfold DN
  rw [← h]

theorem pay6_at (n : Fin 1536) (b : Fin 512) (l : Fin 32) :
    k0_pay6 (F := Ideal) a0 a1 (ix3 n b l) = DN a0 a1 n.val (32 * b.val + l.val) := by
  unfold k0_pay6
  refine Eq.trans ?_ (pay4_at a0 a1 n ⟨32 * b.val + l.val, by omega⟩)
  exact shapeCast_apply _ _ _ _ (by
    rw [Shape.rowMajor_val_three, Shape.rowMajor_val_two]
    show n.val * 16384 + (32 * b.val + l.val) = (n.val * 512 + b.val) * 32 + l.val
    omega)

/-- The largest magnitude of a block of 32 channels. -/
theorem amaxR_at (x : FVec Ideal S1536x512x32 .f32) (n : Fin 1536) (b : Fin 512) :
    multiReduction .maximumf [2] S1536x512 (absf x) 0xFF800000#32 reduces_S1536x512x32_S1536x512 (.inl rfl) rfl (ix2 n b)
      = (Finset.univ : Finset (Fin 32)).fold max (Ideal.ofBits .f32 0xFF800000#32)
          (fun l => max (x (ix3 n b l)) (-(x (ix3 n b l)))) := by
  refine (Ideal.multiReduction_maximumf_single _ _ _ _ _ _).trans ?_
  refine Finset.fold_congr (s := (Finset.univ : Finset (Fin 32))) fun l _ => ?_
  have h : (reduces_S1536x512x32_S1536x512.lift (ix2 n b) l : S1536x512x32.Idx) = ix3 n b l := eq_ix3 _
  exact congrArg (fun i => max (x i) (-(x i))) h

theorem pay7_at (n : Fin 1536) (b : Fin 512) : k0_pay7 (F := Ideal) a0 a1 (ix2 n b) = PR a0 a1 n.val b.val := by
  have h := fun l => pay6_at a0 a1 n b l
  unfold k0_pay7
  generalize k0_pay6 (F := Ideal) a0 a1 = x at h ⊢
  refine (mulc_at _ _ _).trans ?_
  rw [amaxR_at x n b]
  unfold PR amaxS
  exact congrArg (· * Ideal.ofBits .f32 0x3B124925#32) (Finset.fold_congr fun l _ => by rw [h l])

theorem pay18_eq : k0_pay18 (F := Ideal) a0 a1 = k0_pay7 a0 a1 := by
  unfold k0_pay18
  rw [View.ld_unit_zero (S := S1536x16384) hz0 _ a0, View.ld_unit_zero (S := S1536x16384) hz1 _ a1]

theorem pay17_eq : k0_pay17 (F := Ideal) a0 a1 = k0_pay4 a0 a1 := by
  unfold k0_pay17
  rw [View.ld_unit_zero (S := S1536x16384) hz0 _ a0, View.ld_unit_zero (S := S1536x16384) hz1 _ a1]

theorem pay12_at (c : Fin 16384) (t : Fin 48) (l : Fin 32) :
    k0_pay12 (F := Ideal) (k0_pay4 a0 a1) (ix3 c t l) = DN a0 a1 (32 * t.val + l.val) c.val := by
  unfold k0_pay12
  refine Eq.trans ?_ (pay4_at a0 a1 ⟨32 * t.val + l.val, by omega⟩ c)
  refine Eq.trans ?_ (transpose_ix2_apply (k0_pay4 (F := Ideal) a0 a1) transposes_S1536x16384_p1_0_S16384x1536 c ⟨32 * t.val + l.val, by omega⟩)
  exact shapeCast_apply _ _ _ _ (by
    rw [Shape.rowMajor_val_three, Shape.rowMajor_val_two]
    show c.val * 1536 + (32 * t.val + l.val) = (c.val * 48 + t.val) * 32 + l.val
    omega)

/-- The largest magnitude of a block of 32 tokens. -/
theorem amaxC_at (x : FVec Ideal S16384x48x32 .f32) (c : Fin 16384) (t : Fin 48) :
    multiReduction .maximumf [2] S16384x48 (absf x) 0xFF800000#32 reduces_S16384x48x32_S16384x48 (.inl rfl) rfl (ix2 c t)
      = (Finset.univ : Finset (Fin 32)).fold max (Ideal.ofBits .f32 0xFF800000#32)
          (fun l => max (x (ix3 c t l)) (-(x (ix3 c t l)))) := by
  refine (Ideal.multiReduction_maximumf_single _ _ _ _ _ _).trans ?_
  refine Finset.fold_congr (s := (Finset.univ : Finset (Fin 32))) fun l _ => ?_
  have h : (reduces_S16384x48x32_S16384x48.lift (ix2 c t) l : S16384x48x32.Idx) = ix3 c t l := eq_ix3 _
  exact congrArg (fun i => max (x i) (-(x i))) h

theorem pay13_at (c : Fin 16384) (t : Fin 48) :
    k0_pay13 (F := Ideal) (k0_pay4 a0 a1) (ix2 c t) = PC a0 a1 c.val t.val := by
  have h := fun l => pay12_at a0 a1 c t l
  unfold k0_pay13
  generalize k0_pay12 (F := Ideal) (k0_pay4 a0 a1) = x at h ⊢
  refine (mulc_at _ _ _).trans ?_
  rw [amaxC_at x c t]
  unfold PC amaxS
  exact congrArg (· * Ideal.ofBits .f32 0x3B124925#32) (Finset.fold_congr fun l _ => by rw [h l])

/-- The sum over the tokens. -/
theorem sum_at (x : FVec Ideal S1536x16384 .f32) (c : Fin 16384) :
    multiReduction .add [0] S16384 x 0x00000000#32 reduces_S1536x16384_S16384 (.inl rfl) rfl (ix1 c)
      = ∑ n : Fin 1536, x (ix2 n c) := by
  refine (Ideal.multiReduction_add_single _ _ _ _ _ _).trans ?_
  refine Finset.sum_congr (s₁ := (Finset.univ : Finset (Fin 1536))) rfl fun n _ => ?_
  have h : (reduces_S1536x16384_S16384.lift (ix1 c) n : S1536x16384.Idx) = ix2 n c := eq_ix2 _
  exact congrArg x h

theorem G2_at (z : Fin 1) (c : Fin 16384) : G2 (F := Ideal) a0 a1 (ix2 z c) = ∑ n ∈ Finset.range 1536, DN a0 a1 n c.val := by
  have h := fun n => pay4_at a0 a1 n c
  show k0_pay5 (F := Ideal) a0 a1 (ix2 z c) = _
  unfold k0_pay5
  generalize k0_pay4 (F := Ideal) a0 a1 = x at h ⊢
  refine (shapeCast_a_1a_apply _ shapeCasts_S16384_S1x16384 z c).trans ((sum_at x c).trans ?_)
  rw [Finset.sum_range]
  exact Finset.sum_congr rfl fun n _ => h n

theorem pay9_at (p : FVec Ideal S1536x512 .f32) (i : S1536x512.Idx) : k0_pay9 p (k0_pay8 (F := Ideal)) i = refE (p i) := rfl

theorem pay1_parts (u : IVec S16384x48 1) (v w : FVec Ideal S16384x48 .f32) (i : S16384x48.Idx) :
    k0_pay1 u v w i = Scalar.select (u i) (Ideal.ofBits .f32 0x00000000#32) ((v i : EReal) + w i) := rfl

theorem cmin_at (q : FVec Ideal S16384x48 .f32) (i : S16384x48.Idx) :
    cmpf .olt q (broadcast S16384x48 (Scalar.ofBits .f32 0x00800000#32)) i
      = Ideal.cmp .olt (q i) (Ideal.ofBits .f32 0x00800000#32) := rfl

theorem floor_at (q : FVec Ideal S16384x48 .f32) (i : S16384x48.Idx) :
    floor (divf (log q) (log (broadcast S16384x48 (Scalar.ofBits .f32 0x40000000#32)))) i
      = Ideal.liftRound Int.floor (Ideal.div (Ideal.log (q i)) (Ideal.log (Ideal.ofBits .f32 0x40000000#32))) := rfl

theorem pay16_at (i : S16384x48.Idx) : k0_pay16 (F := Ideal) i = Ideal.ofBits .f32 0x3F800000#32 := rfl

theorem pay1_at (p : FVec Ideal S1536x16384 .f32) (i : S16384x48.Idx) :
    k0_pay1 (k0_pay14 p) (k0_pay15 p) (k0_pay16 (F := Ideal)) i = refE (k0_pay13 p i) := by
  rw [pay1_parts]
  unfold k0_pay14 k0_pay15
  generalize k0_pay13 p = q
  unfold refE
  rw [cmin_at, floor_at, pay16_at]

theorem pay10_at (x : FVec Ideal S1536x512x32 .f32) (p q : FVec Ideal S1536x512 .f32) (n : Fin 1536) (c : Fin 16384) :
    k0_pay10 x p q (ix2 n c)
      = clipS (x (ix3 n ⟨c.val / 32, by omega⟩ ⟨c.val % 32, Nat.mod_lt _ (by decide)⟩)
        * Ideal.exp2 (Ideal.ofBits .f32 0x00000000#32 - k0_pay9 p q (ix2 n ⟨c.val / 32, by omega⟩))) := by
  unfold k0_pay10
  generalize k0_pay9 p q = e
  refine (shapeCast_apply _ _ _ (ix3 n ⟨c.val / 32, by omega⟩ ⟨c.val % 32, Nat.mod_lt _ (by decide)⟩) (by
    rw [Shape.rowMajor_val_three, Shape.rowMajor_val_two]
    show (n.val * 512 + c.val / 32) * 32 + c.val % 32 = n.val * 16384 + c.val
    omega)).trans ?_
  refine congrArg (fun v => clipS (x (ix3 n ⟨c.val / 32, by omega⟩ ⟨c.val % 32, Nat.mod_lt _ (by decide)⟩) * v)) ?_
  refine (broadcastTo_apply _ broadcasts_S1536x512x1_S1536x512x32 _ (ix3 n ⟨c.val / 32, by omega⟩ 0) ?_).trans ?_
  · intro a
    match a with
    | ⟨0, _⟩ => rfl
    | ⟨1, _⟩ => rfl
    | ⟨2, _⟩ => rfl
  · exact shapeCast_apply _ _ _ (ix2 n ⟨c.val / 32, by omega⟩) (by
      rw [Shape.rowMajor_val_three, Shape.rowMajor_val_two]
      show n.val * 512 + c.val / 32 = (n.val * 512 + c.val / 32) * 1 + 0
      omega)

theorem pay2_at (x : FVec Ideal S16384x48x32 .f32) (u : IVec S16384x48 1) (v w : FVec Ideal S16384x48 .f32) (c : Fin 16384) (n : Fin 1536) :
    k0_pay2 x u v w (ix2 c n)
      = clipS (x (ix3 c ⟨n.val / 32, by omega⟩ ⟨n.val % 32, Nat.mod_lt _ (by decide)⟩)
        * Ideal.exp2 (Ideal.ofBits .f32 0x00000000#32 - k0_pay1 u v w (ix2 c ⟨n.val / 32, by omega⟩))) := by
  unfold k0_pay2
  generalize k0_pay1 u v w = e
  refine (shapeCast_apply _ _ _ (ix3 c ⟨n.val / 32, by omega⟩ ⟨n.val % 32, Nat.mod_lt _ (by decide)⟩) (by
    rw [Shape.rowMajor_val_three, Shape.rowMajor_val_two]
    show (c.val * 48 + n.val / 32) * 32 + n.val % 32 = c.val * 1536 + n.val
    omega)).trans ?_
  refine congrArg (fun v => clipS (x (ix3 c ⟨n.val / 32, by omega⟩ ⟨n.val % 32, Nat.mod_lt _ (by decide)⟩) * v)) ?_
  refine (broadcastTo_apply _ broadcasts_S16384x48x1_S16384x48x32 _ (ix3 c ⟨n.val / 32, by omega⟩ 0) ?_).trans ?_
  · intro a
    match a with
    | ⟨0, _⟩ => rfl
    | ⟨1, _⟩ => rfl
    | ⟨2, _⟩ => rfl
  · exact shapeCast_apply _ _ _ (ix2 c ⟨n.val / 32, by omega⟩) (by
      rw [Shape.rowMajor_val_three, Shape.rowMajor_val_two]
      show c.val * 48 + n.val / 32 = (c.val * 48 + n.val / 32) * 1 + 0
      omega)

theorem pay3_at (u : IVec S16384x48 1) (v w : FVec Ideal S16384x48 .f32) (i : S16384x48.Idx) :
    k0_pay3 u v w i = (Ideal.fptosi 32 (k0_pay1 u v w i) + 127#32).setWidth 8 := by
  unfold k0_pay3
  generalize k0_pay1 u v w = e
  rfl

theorem pay11_at (p q : FVec Ideal S1536x512 .f32) (i : S1536x512.Idx) :
    k0_pay11 p q i = (Ideal.fptosi 32 (k0_pay9 p q i) + 127#32).setWidth 8 := by
  unfold k0_pay11
  generalize k0_pay9 p q = e
  rfl

theorem G3_at (n : Fin 1536) (c : Fin 16384) :
    G3 (F := Ideal) a0 a1 (ix2 n c) = clipS (DN a0 a1 n.val c.val * refInv (PR a0 a1 n.val (c.val / 32))) := by
  show k0_pay10 (k0_pay6 (F := Ideal) a0 a1) (k0_pay18 a0 a1) (k0_pay19 a0 a1) (ix2 n c) = _
  unfold k0_pay19
  rw [pay18_eq, pay10_at, pay9_at, pay6_at, pay7_at]
  have e : 32 * (c.val / 32) + c.val % 32 = c.val := by omega
  rw [e, refInv]

theorem G4_at (n : Fin 1536) (b : Fin 512) : G4 (F := Ideal) a0 a1 (ix2 n b) = (refW (PR a0 a1 n.val b.val)).setWidth 8 := by
  show k0_pay11 (k0_pay18 (F := Ideal) a0 a1) (k0_pay19 a0 a1) (ix2 n b) = _
  unfold k0_pay19
  rw [pay18_eq, pay11_at, pay9_at, pay7_at, refW]

theorem G5_at (c : Fin 16384) (n : Fin 1536) :
    G5 (F := Ideal) a0 a1 (ix2 c n) = clipS (DN a0 a1 n.val c.val * refInv (PC a0 a1 c.val (n.val / 32))) := by
  show k0_pay2 (k0_pay12 (k0_pay17 (F := Ideal) a0 a1)) (k0_pay20 a0 a1) (k0_pay21 a0 a1) (k0_pay22 a0 a1) (ix2 c n) = _
  unfold k0_pay20 k0_pay21 k0_pay22
  rw [pay17_eq, pay2_at, pay1_at, pay12_at, pay13_at]
  have e : 32 * (n.val / 32) + n.val % 32 = n.val := by omega
  rw [e, refInv]

theorem G6_at (c : Fin 16384) (t : Fin 48) : G6 (F := Ideal) a0 a1 (ix2 c t) = (refW (PC a0 a1 c.val t.val)).setWidth 8 := by
  show k0_pay3 (k0_pay20 (F := Ideal) a0 a1) (k0_pay21 a0 a1) (k0_pay22 a0 a1) (ix2 c t) = _
  unfold k0_pay20 k0_pay21 k0_pay22
  rw [pay17_eq, pay3_at, pay1_at, pay13_at, refW]

end Cert.ReferenceIdeal.Run

end
-- ==== Proof.Equal.lean ====
/- The kernel's five result arrays are the reference's, on extended reals, where the gradient is finite. The bias
   gradient agrees for every input. -/
module

public import proofs.«01_k».proof.Proof.KernelAt
public import proofs.«01_k».proof.Proof.RefAt
public import proofs.«01_k».proof.Pre_grad_finite

@[expose] public section

set_option maxRecDepth 16384

noncomputable section

namespace Cert.Quant

open Idealize.ShloMosaic Idealize.ShloMosaic.TcCoe Idealize.ShloMosaic.ValueIdx

theorem preFacts : Cert.Pre_grad_finite.Facts :=
  { bitsLt_bf16_f32 := by decide
    bcast_S_S1536x16384 := by decide }

/-- The precondition, read: every entry of the gradient is finite. -/
theorem pre_read [Cert.Pre_grad_finite.Facts] (a0 a1 : Vec Ideal ⟨2, ![1536, 16384]⟩ .bf16)
    (h : Cert.Pre_grad_finite.fn (F := Ideal) a0 a1 = fun _ => 1#1) (y : (⟨2, ![1536, 16384]⟩ : Shape).Idx) :
    max (a0 y : EReal) (-(a0 y)) ≤ Ideal.ofBits .f32 0x7F7F0000#32 := by
  have e : BitVec.ofBool (decide (max (a0 y : EReal) (-(a0 y)) ≤ Ideal.ofBits .f32 0x7F7F0000#32)) = 1#1 := congrFun h y
  by_contra hn
  rw [decide_eq_false hn] at e
  exact absurd e (by decide)

variable (a0 a1 : Vec Ideal ⟨2, ![1536, 16384]⟩ .bf16)

theorem eq2 : Cert.KernelIdeal.Run.K2 (F := Ideal) a0 a1 = Cert.ReferenceIdeal.Run.G2 a0 a1 := by
  funext y
  rw [eq_ix2 y]
  exact (Cert.KernelIdeal.Run.K2_at a0 a1 _ _).trans (Cert.ReferenceIdeal.Run.G2_at a0 a1 _ _).symm

variable (h : ∀ y, max (a0 y : EReal) (-(a0 y)) ≤ Ideal.ofBits .f32 0x7F7F0000#32)
include h

theorem row_eq (n b : ℕ) : scaleS (PR a0 a1 n b) = refW (PR a0 a1 n b) ∧ invS (PR a0 a1 n b) = refInv (PR a0 a1 n b) :=
  block_eq a0 a1 h (fun _ => n) (fun l => 32 * b + l.val)

theorem col_eq (c t : ℕ) : scaleS (PC a0 a1 c t) = refW (PC a0 a1 c t) ∧ invS (PC a0 a1 c t) = refInv (PC a0 a1 c t) :=
  block_eq a0 a1 h (fun l => 32 * t + l.val) (fun _ => c)

theorem eq3 : Cert.KernelIdeal.Run.K3 (F := Ideal) a0 a1 = Cert.ReferenceIdeal.Run.G3 a0 a1 := by
  funext y
  rw [eq_ix2 y]
  refine (Cert.KernelIdeal.Run.K3_at a0 a1 _ _).trans (Eq.trans ?_ (Cert.ReferenceIdeal.Run.G3_at a0 a1 _ _).symm)
  rw [(row_eq a0 a1 h _ _).2]

theorem eq4 : Cert.KernelIdeal.Run.K4 (F := Ideal) a0 a1 = Cert.ReferenceIdeal.Run.G4 a0 a1 := by
  funext y
  rw [eq_ix2 y]
  refine (Cert.KernelIdeal.Run.K4_at a0 a1 _ _).trans (Eq.trans ?_ (Cert.ReferenceIdeal.Run.G4_at a0 a1 _ _).symm)
  rw [(row_eq a0 a1 h _ _).1]

theorem eq5 : Cert.KernelIdeal.Run.K5 (F := Ideal) a0 a1 = Cert.ReferenceIdeal.Run.G5 a0 a1 := by
  funext y
  rw [eq_ix2 y]
  refine (Cert.KernelIdeal.Run.K5_at a0 a1 _ _).trans (Eq.trans ?_ (Cert.ReferenceIdeal.Run.G5_at a0 a1 _ _).symm)
  rw [(col_eq a0 a1 h _ _).2]

theorem eq6 : Cert.KernelIdeal.Run.K6 (F := Ideal) a0 a1 = Cert.ReferenceIdeal.Run.G6 a0 a1 := by
  funext y
  rw [eq_ix2 y]
  refine (Cert.KernelIdeal.Run.K6_at a0 a1 _ _).trans (Eq.trans ?_ (Cert.ReferenceIdeal.Run.G6_at a0 a1 _ _).symm)
  rw [(col_eq a0 a1 h _ _).1]

end Cert.Quant

end
-- ==== Proof.lean ====
module

public import proofs.«01_k».proof.Defs
public import proofs.«01_k».proof.Proof.Same
public import proofs.«01_k».proof.Proof.Equal

@[expose] public section

noncomputable section

namespace Cert.Proof

open Idealize.ShloMosaic Idealize.ShloMosaic.TcCoe Idealize.SL.Sem

/-- The kernel's five results are the reference's, where the gradient is finite. -/
theorem algebraic :
    @Cert.algebraic_KernelIdeal_ReferenceIdeal_pre_grad_finite Cert.KernelIdeal.Gen.facts Cert.ReferenceIdeal.Gen.facts
      Cert.Quant.preFacts := by
  intro m g m' g' hpre hargs
  refine ⟨fun c => Cert.KernelIdeal.Run.K2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Run.K3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Run.K4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Run.K5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Run.K6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Run.run m g, ?_⟩
  refine (θ_run _ _ _).mono (fun r h c => ?_) (Cert.ReferenceIdeal.Run.run m' g')
  obtain ⟨h2, h3, h4, h5, h6, k0, k1⟩ := h c
  obtain ⟨e0, e1⟩ := hargs c
  have hf := @Cert.Quant.pre_read Cert.Quant.preFacts _ _ (hpre c)
  refine ⟨?_, ?_, ?_, ?_, ?_, k0, k1⟩
  · rw [h2, e0, e1]; exact (Cert.Quant.eq2 _ _).symm
  · rw [h3, e0, e1]; exact (Cert.Quant.eq3 _ _ hf).symm
  · rw [h4, e0, e1]; exact (Cert.Quant.eq4 _ _ hf).symm
  · rw [h5, e0, e1]; exact (Cert.Quant.eq5 _ _ hf).symm
  · rw [h6, e0, e1]; exact (Cert.Quant.eq6 _ _ hf).symm

theorem claim : Cert.Claim :=
  ⟨Cert.Kernel.Gen.facts, Cert.KernelIdeal.Gen.facts, Cert.ReferenceIdeal.Gen.facts, Cert.Quant.preFacts,
    Cert.Kernel.Run.frame,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial,
    algebraic⟩

end Cert.Proof

end
